-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![1024, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S1024x256 : Shape := ⟨2, ![1024, 256]⟩
abbrev S3x256x256 : Shape := ⟨3, ![3, 256, 256]⟩
abbrev S12 : Shape := ⟨1, ![12]⟩
abbrev S_ : Shape := ⟨0, ![]⟩
abbrev S1 : Shape := ⟨1, ![1]⟩
abbrev S64x256 : Shape := ⟨2, ![64, 256]⟩
abbrev S64x512 : Shape := ⟨2, ![64, 512]⟩
abbrev S1x64x256 : Shape := ⟨3, ![1, 64, 256]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S1024x256, .bf16⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S3x256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_7 : BitVec 32 := 1#32
  let v11 : BitVec 32 := Scalar.muli v5 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v16 : Index := Scalar.indexCast v13
  let c0_11 : Index := 0#32
  ![v16.toNat, 0]
def k0_off2 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_12 : BitVec 32 := 256#32
  let v20 : BitVec 32 := Scalar.muli v2 c256_i32_12
  let v21 : BitVec 32 := Scalar.addi v20 c0_i32_13
  let c0_i32_18 : BitVec 32 := 0#32
  ![v21.toNat, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_16 : BitVec 32 := 1#32
  let v22 : BitVec 32 := Scalar.muli v3 c1_i32_16
  let v23 : BitVec 32 := Scalar.addi c0_i32_17 v22
  v23.toNat
def k0_dev5 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_24 : BitVec 32 := 1#32
  let v32 : BitVec 32 := Scalar.muli v4 c1_i32_24
  let v33 : BitVec 32 := Scalar.addi c0_i32_25 v32
  v33.toNat
def k0_dev6 (d0 : Dev nD) : Nat :=
  let c0_i32_32 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_31 : BitVec 32 := 1#32
  let v42 : BitVec 32 := Scalar.muli v5 c1_i32_31
  let v43 : BitVec 32 := Scalar.addi c0_i32_32 v42
  v43.toNat
def k0_dev7 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_38 : BitVec 32 := 1#32
  let v52 : BitVec 32 := Scalar.muli v3 c1_i32_38
  let v53 : BitVec 32 := Scalar.addi c0_i32_39 v52
  v53.toNat
def k0_dev8 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_45 : BitVec 32 := 1#32
  let v62 : BitVec 32 := Scalar.muli v4 c1_i32_45
  let v63 : BitVec 32 := Scalar.addi c0_i32_46 v62
  v63.toNat
def k0_dev9 (d0 : Dev nD) : Nat :=
  let c0_i32_53 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_52 : BitVec 32 := 1#32
  let v72 : BitVec 32 := Scalar.muli v5 c1_i32_52
  let v73 : BitVec 32 := Scalar.addi c0_i32_53 v72
  v73.toNat
def k0_dev10 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_59 : BitVec 32 := 1#32
  let v82 : BitVec 32 := Scalar.muli v3 c1_i32_59
  let v83 : BitVec 32 := Scalar.addi c0_i32_60 v82
  v83.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_66 : BitVec 32 := 1#32
  let v92 : BitVec 32 := Scalar.muli v4 c1_i32_66
  let v93 : BitVec 32 := Scalar.addi c0_i32_67 v92
  v93.toNat
def k0_dev12 (d0 : Dev nD) : Nat :=
  let c0_i32_74 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_73 : BitVec 32 := 1#32
  let v102 : BitVec 32 := Scalar.muli v5 c1_i32_73
  let v103 : BitVec 32 := Scalar.addi c0_i32_74 v102
  v103.toNat
def k0_dev13 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_80 : BitVec 32 := 1#32
  let v112 : BitVec 32 := Scalar.muli v3 c1_i32_80
  let v113 : BitVec 32 := Scalar.addi c0_i32_81 v112
  v113.toNat
def k0_dev14 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_87 : BitVec 32 := 1#32
  let v122 : BitVec 32 := Scalar.muli v4 c1_i32_87
  let v123 : BitVec 32 := Scalar.addi c0_i32_88 v122
  v123.toNat
def k0_dev15 (d0 : Dev nD) : Nat :=
  let c0_i32_95 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_94 : BitVec 32 := 1#32
  let v132 : BitVec 32 := Scalar.muli v5 c1_i32_94
  let v133 : BitVec 32 := Scalar.addi c0_i32_95 v132
  v133.toNat
def k0_off3 (d0 : Dev nD) (c1_i32_0 : BitVec 32) (c0_i32_109 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.xori v2 c1_i32_0
  let c256_i32_108 : BitVec 32 := 256#32
  let v150 : BitVec 32 := Scalar.muli v4 c256_i32_108
  let v151 : BitVec 32 := Scalar.addi v150 c0_i32_109
  let v152 : Index := Scalar.indexCast v151
  let c0_110 : Index := 0#32
  ![v152.toNat, 0]
def k0_off4 (d0 : Dev nD) (c1_i32_0 : BitVec 32) (c0_i32_115 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.xori v2 c1_i32_0
  let c256_i32_114 : BitVec 32 := 256#32
  let v164 : BitVec 32 := Scalar.muli v4 c256_i32_114
  let v165 : BitVec 32 := Scalar.addi v164 c0_i32_115
  let c0_i32_123 : BitVec 32 := 0#32
  ![v165.toNat, 0]
def k0_dev16 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_119 : BitVec 32 := 1#32
  let v166 : BitVec 32 := Scalar.muli v4 c1_i32_119
  let v167 : BitVec 32 := Scalar.addi c0_i32_120 v166
  v167.toNat
def k0_off5 (d0 : Dev nD) (c0_i32_131 : BitVec 32) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c256_i32_130 : BitVec 32 := 256#32
  let v181 : BitVec 32 := Scalar.muli v5 c256_i32_130
  let v182 : BitVec 32 := Scalar.addi v181 c0_i32_131
  let v183 : Index := Scalar.indexCast v182
  let c0_132 : Index := 0#32
  ![v183.toNat, 0]
def k0_off6 (d0 : Dev nD) (c0_i32_138 : BitVec 32) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c256_i32_137 : BitVec 32 := 256#32
  let v195 : BitVec 32 := Scalar.muli v5 c256_i32_137
  let v196 : BitVec 32 := Scalar.addi v195 c0_i32_138
  let c0_i32_146 : BitVec 32 := 0#32
  ![v196.toNat, 0]
def k0_dev17 (d0 : Dev nD) : Nat :=
  let c0_i32_143 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_142 : BitVec 32 := 1#32
  let v197 : BitVec 32 := Scalar.muli v5 c1_i32_142
  let v198 : BitVec 32 := Scalar.addi c0_i32_143 v197
  v198.toNat
def k0_dev18 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_165 : BitVec 32 := 1#32
  let v228 : BitVec 32 := Scalar.muli v3 c1_i32_165
  let v229 : BitVec 32 := Scalar.addi c0_i32_166 v228
  v229.toNat
def k0_dev19 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_188 : BitVec 32 := 1#32
  let v259 : BitVec 32 := Scalar.muli v4 c1_i32_188
  let v260 : BitVec 32 := Scalar.addi c0_i32_189 v259
  v260.toNat
def k0_dev20 (d0 : Dev nD) : Nat :=
  let c0_i32_212 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_211 : BitVec 32 := 1#32
  let v290 : BitVec 32 := Scalar.muli v5 c1_i32_211
  let v291 : BitVec 32 := Scalar.addi c0_i32_212 v290
  v291.toNat
def k0_dev21 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_234 : BitVec 32 := 1#32
  let v321 : BitVec 32 := Scalar.muli v3 c1_i32_234
  let v322 : BitVec 32 := Scalar.addi c0_i32_235 v321
  v322.toNat
def k0_dev22 (d0 : Dev nD) : Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_257 : BitVec 32 := 1#32
  let v352 : BitVec 32 := Scalar.muli v4 c1_i32_257
  let v353 : BitVec 32 := Scalar.addi c0_i32_258 v352
  v353.toNat
def k0_dev23 (d0 : Dev nD) : Nat :=
  let c0_i32_281 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_280 : BitVec 32 := 1#32
  let v383 : BitVec 32 := Scalar.muli v5 c1_i32_280
  let v384 : BitVec 32 := Scalar.addi c0_i32_281 v383
  v384.toNat
def k0_dev24 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_303 : BitVec 32 := 1#32
  let v414 : BitVec 32 := Scalar.muli v3 c1_i32_303
  let v415 : BitVec 32 := Scalar.addi c0_i32_304 v414
  v415.toNat
def k0_dev25 (d0 : Dev nD) : Nat :=
  let c0_i32_327 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_326 : BitVec 32 := 1#32
  let v445 : BitVec 32 := Scalar.muli v4 c1_i32_326
  let v446 : BitVec 32 := Scalar.addi c0_i32_327 v445
  v446.toNat
def k0_dev26 (d0 : Dev nD) : Nat :=
  let c0_i32_350 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_349 : BitVec 32 := 1#32
  let v476 : BitVec 32 := Scalar.muli v5 c1_i32_349
  let v477 : BitVec 32 := Scalar.addi c0_i32_350 v476
  v477.toNat
def k0_dev27 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_372 : BitVec 32 := 1#32
  let v507 : BitVec 32 := Scalar.muli v3 c1_i32_372
  let v508 : BitVec 32 := Scalar.addi c0_i32_373 v507
  v508.toNat
def k0_off7 (d0 : Dev nD) (c0_i32_438 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_437 : BitVec 32 := 256#32
  let v564 : BitVec 32 := Scalar.muli v2 c256_i32_437
  let v565 : BitVec 32 := Scalar.addi v564 c0_i32_438
  let v566 : Index := Scalar.indexCast v565
  let c0_439 : Index := 0#32
  ![v566.toNat, 0]
def k0_dev28 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_483 : BitVec 32 := 1#32
  let v623 : BitVec 32 := Scalar.muli v3 c1_i32_483
  let v624 : BitVec 32 := Scalar.addi c0_i32_484 v623
  v624.toNat
def k0_dev29 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_491 : BitVec 32 := 1#32
  let v633 : BitVec 32 := Scalar.muli v4 c1_i32_491
  let v634 : BitVec 32 := Scalar.addi c0_i32_492 v633
  v634.toNat
def k0_dev30 (d0 : Dev nD) : Nat :=
  let c0_i32_500 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_499 : BitVec 32 := 1#32
  let v643 : BitVec 32 := Scalar.muli v5 c1_i32_499
  let v644 : BitVec 32 := Scalar.addi c0_i32_500 v643
  v644.toNat
def k0_dev31 (d0 : Dev nD) : Nat :=
  let c0_i32_551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_550 : BitVec 32 := 1#32
  let v710 : BitVec 32 := Scalar.muli v3 c1_i32_550
  let v711 : BitVec 32 := Scalar.addi c0_i32_551 v710
  v711.toNat
def k0_dev32 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_558 : BitVec 32 := 1#32
  let v720 : BitVec 32 := Scalar.muli v4 c1_i32_558
  let v721 : BitVec 32 := Scalar.addi c0_i32_559 v720
  v721.toNat
def k0_dev33 (d0 : Dev nD) : Nat :=
  let c0_i32_567 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_566 : BitVec 32 := 1#32
  let v730 : BitVec 32 := Scalar.muli v5 c1_i32_566
  let v731 : BitVec 32 := Scalar.addi c0_i32_567 v730
  v731.toNat
def k0_dev34 (d0 : Dev nD) : Nat :=
  let c0_i32_618 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_617 : BitVec 32 := 1#32
  let v797 : BitVec 32 := Scalar.muli v3 c1_i32_617
  let v798 : BitVec 32 := Scalar.addi c0_i32_618 v797
  v798.toNat
def k0_dev35 (d0 : Dev nD) : Nat :=
  let c0_i32_626 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_625 : BitVec 32 := 1#32
  let v807 : BitVec 32 := Scalar.muli v4 c1_i32_625
  let v808 : BitVec 32 := Scalar.addi c0_i32_626 v807
  v808.toNat
def k0_dev36 (d0 : Dev nD) : Nat :=
  let c0_i32_634 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_633 : BitVec 32 := 1#32
  let v817 : BitVec 32 := Scalar.muli v5 c1_i32_633
  let v818 : BitVec 32 := Scalar.addi c0_i32_634 v817
  v818.toNat
def k0_dev37 (d0 : Dev nD) : Nat :=
  let c0_i32_685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_684 : BitVec 32 := 1#32
  let v884 : BitVec 32 := Scalar.muli v3 c1_i32_684
  let v885 : BitVec 32 := Scalar.addi c0_i32_685 v884
  v885.toNat
def k0_dev38 (d0 : Dev nD) : Nat :=
  let c0_i32_693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_692 : BitVec 32 := 1#32
  let v894 : BitVec 32 := Scalar.muli v4 c1_i32_692
  let v895 : BitVec 32 := Scalar.addi c0_i32_693 v894
  v895.toNat
def k0_dev39 (d0 : Dev nD) : Nat :=
  let c0_i32_701 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_700 : BitVec 32 := 1#32
  let v904 : BitVec 32 := Scalar.muli v5 c1_i32_700
  let v905 : BitVec 32 := Scalar.addi c0_i32_701 v904
  v905.toNat
def k0_dev40 (d0 : Dev nD) : Nat :=
  let c0_i32_811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_810 : BitVec 32 := 1#32
  let v998 : BitVec 32 := Scalar.muli v4 c1_i32_810
  let v999 : BitVec 32 := Scalar.addi c0_i32_811 v998
  v999.toNat
def k0_dev41 (d0 : Dev nD) : Nat :=
  let c0_i32_834 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_833 : BitVec 32 := 1#32
  let v1029 : BitVec 32 := Scalar.muli v5 c1_i32_833
  let v1030 : BitVec 32 := Scalar.addi c0_i32_834 v1029
  v1030.toNat
def k0_dev42 (d0 : Dev nD) : Nat :=
  let c0_i32_857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_856 : BitVec 32 := 1#32
  let v1060 : BitVec 32 := Scalar.muli v3 c1_i32_856
  let v1061 : BitVec 32 := Scalar.addi c0_i32_857 v1060
  v1061.toNat
def k0_dev43 (d0 : Dev nD) : Nat :=
  let c0_i32_880 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_879 : BitVec 32 := 1#32
  let v1091 : BitVec 32 := Scalar.muli v4 c1_i32_879
  let v1092 : BitVec 32 := Scalar.addi c0_i32_880 v1091
  v1092.toNat
def k0_dev44 (d0 : Dev nD) : Nat :=
  let c0_i32_903 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_902 : BitVec 32 := 1#32
  let v1122 : BitVec 32 := Scalar.muli v5 c1_i32_902
  let v1123 : BitVec 32 := Scalar.addi c0_i32_903 v1122
  v1123.toNat
def k0_dev45 (d0 : Dev nD) : Nat :=
  let c0_i32_926 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_925 : BitVec 32 := 1#32
  let v1153 : BitVec 32 := Scalar.muli v3 c1_i32_925
  let v1154 : BitVec 32 := Scalar.addi c0_i32_926 v1153
  v1154.toNat
def k0_dev46 (d0 : Dev nD) : Nat :=
  let c0_i32_949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_948 : BitVec 32 := 1#32
  let v1184 : BitVec 32 := Scalar.muli v4 c1_i32_948
  let v1185 : BitVec 32 := Scalar.addi c0_i32_949 v1184
  v1185.toNat
def k0_dev47 (d0 : Dev nD) : Nat :=
  let c0_i32_972 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_971 : BitVec 32 := 1#32
  let v1215 : BitVec 32 := Scalar.muli v5 c1_i32_971
  let v1216 : BitVec 32 := Scalar.addi c0_i32_972 v1215
  v1216.toNat
def k0_dev48 (d0 : Dev nD) : Nat :=
  let c0_i32_995 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_994 : BitVec 32 := 1#32
  let v1246 : BitVec 32 := Scalar.muli v3 c1_i32_994
  let v1247 : BitVec 32 := Scalar.addi c0_i32_995 v1246
  v1247.toNat
def k0_dev49 (d0 : Dev nD) : Nat :=
  let c0_i32_1018 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1017 : BitVec 32 := 1#32
  let v1277 : BitVec 32 := Scalar.muli v4 c1_i32_1017
  let v1278 : BitVec 32 := Scalar.addi c0_i32_1018 v1277
  v1278.toNat
def k0_dev50 (d0 : Dev nD) : Nat :=
  let c0_i32_1041 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1040 : BitVec 32 := 1#32
  let v1308 : BitVec 32 := Scalar.muli v5 c1_i32_1040
  let v1309 : BitVec 32 := Scalar.addi c0_i32_1041 v1308
  v1309.toNat
def k0_dev51 (d0 : Dev nD) : Nat :=
  let c0_i32_1064 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1063 : BitVec 32 := 1#32
  let v1339 : BitVec 32 := Scalar.muli v3 c1_i32_1063
  let v1340 : BitVec 32 := Scalar.addi c0_i32_1064 v1339
  v1340.toNat
def k0_dev52 (d0 : Dev nD) : Nat :=
  let c0_i32_1177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1176 : BitVec 32 := 1#32
  let v1455 : BitVec 32 := Scalar.muli v3 c1_i32_1176
  let v1456 : BitVec 32 := Scalar.addi c0_i32_1177 v1455
  v1456.toNat
def k0_dev53 (d0 : Dev nD) : Nat :=
  let c0_i32_1185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1184 : BitVec 32 := 1#32
  let v1465 : BitVec 32 := Scalar.muli v4 c1_i32_1184
  let v1466 : BitVec 32 := Scalar.addi c0_i32_1185 v1465
  v1466.toNat
def k0_dev54 (d0 : Dev nD) : Nat :=
  let c0_i32_1193 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1192 : BitVec 32 := 1#32
  let v1475 : BitVec 32 := Scalar.muli v5 c1_i32_1192
  let v1476 : BitVec 32 := Scalar.addi c0_i32_1193 v1475
  v1476.toNat
def k0_dev55 (d0 : Dev nD) : Nat :=
  let c0_i32_1245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1244 : BitVec 32 := 1#32
  let v1542 : BitVec 32 := Scalar.muli v3 c1_i32_1244
  let v1543 : BitVec 32 := Scalar.addi c0_i32_1245 v1542
  v1543.toNat
def k0_dev56 (d0 : Dev nD) : Nat :=
  let c0_i32_1253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1252 : BitVec 32 := 1#32
  let v1552 : BitVec 32 := Scalar.muli v4 c1_i32_1252
  let v1553 : BitVec 32 := Scalar.addi c0_i32_1253 v1552
  v1553.toNat
def k0_dev57 (d0 : Dev nD) : Nat :=
  let c0_i32_1261 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1260 : BitVec 32 := 1#32
  let v1562 : BitVec 32 := Scalar.muli v5 c1_i32_1260
  let v1563 : BitVec 32 := Scalar.addi c0_i32_1261 v1562
  v1563.toNat
def k0_dev58 (d0 : Dev nD) : Nat :=
  let c0_i32_1313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1312 : BitVec 32 := 1#32
  let v1629 : BitVec 32 := Scalar.muli v3 c1_i32_1312
  let v1630 : BitVec 32 := Scalar.addi c0_i32_1313 v1629
  v1630.toNat
def k0_dev59 (d0 : Dev nD) : Nat :=
  let c0_i32_1321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1320 : BitVec 32 := 1#32
  let v1639 : BitVec 32 := Scalar.muli v4 c1_i32_1320
  let v1640 : BitVec 32 := Scalar.addi c0_i32_1321 v1639
  v1640.toNat
def k0_dev60 (d0 : Dev nD) : Nat :=
  let c0_i32_1329 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1328 : BitVec 32 := 1#32
  let v1649 : BitVec 32 := Scalar.muli v5 c1_i32_1328
  let v1650 : BitVec 32 := Scalar.addi c0_i32_1329 v1649
  v1650.toNat
def k0_dev61 (d0 : Dev nD) : Nat :=
  let c0_i32_1381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1380 : BitVec 32 := 1#32
  let v1716 : BitVec 32 := Scalar.muli v3 c1_i32_1380
  let v1717 : BitVec 32 := Scalar.addi c0_i32_1381 v1716
  v1717.toNat
def k0_dev62 (d0 : Dev nD) : Nat :=
  let c0_i32_1389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1388 : BitVec 32 := 1#32
  let v1726 : BitVec 32 := Scalar.muli v4 c1_i32_1388
  let v1727 : BitVec 32 := Scalar.addi c0_i32_1389 v1726
  v1727.toNat
def k0_dev63 (d0 : Dev nD) : Nat :=
  let c0_i32_1397 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1396 : BitVec 32 := 1#32
  let v1736 : BitVec 32 := Scalar.muli v5 c1_i32_1396
  let v1737 : BitVec 32 := Scalar.addi c0_i32_1397 v1736
  v1737.toNat
def k0_dev64 (d0 : Dev nD) : Nat :=
  let c0_i32_1507 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1506 : BitVec 32 := 1#32
  let v1830 : BitVec 32 := Scalar.muli v4 c1_i32_1506
  let v1831 : BitVec 32 := Scalar.addi c0_i32_1507 v1830
  v1831.toNat
def k0_dev65 (d0 : Dev nD) : Nat :=
  let c0_i32_1530 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1529 : BitVec 32 := 1#32
  let v1861 : BitVec 32 := Scalar.muli v5 c1_i32_1529
  let v1862 : BitVec 32 := Scalar.addi c0_i32_1530 v1861
  v1862.toNat
def k0_dev66 (d0 : Dev nD) : Nat :=
  let c0_i32_1553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1552 : BitVec 32 := 1#32
  let v1892 : BitVec 32 := Scalar.muli v3 c1_i32_1552
  let v1893 : BitVec 32 := Scalar.addi c0_i32_1553 v1892
  v1893.toNat
def k0_dev67 (d0 : Dev nD) : Nat :=
  let c0_i32_1576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1575 : BitVec 32 := 1#32
  let v1923 : BitVec 32 := Scalar.muli v4 c1_i32_1575
  let v1924 : BitVec 32 := Scalar.addi c0_i32_1576 v1923
  v1924.toNat
def k0_dev68 (d0 : Dev nD) : Nat :=
  let c0_i32_1599 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1598 : BitVec 32 := 1#32
  let v1954 : BitVec 32 := Scalar.muli v5 c1_i32_1598
  let v1955 : BitVec 32 := Scalar.addi c0_i32_1599 v1954
  v1955.toNat
def k0_dev69 (d0 : Dev nD) : Nat :=
  let c0_i32_1622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1621 : BitVec 32 := 1#32
  let v1985 : BitVec 32 := Scalar.muli v3 c1_i32_1621
  let v1986 : BitVec 32 := Scalar.addi c0_i32_1622 v1985
  v1986.toNat
def k0_dev70 (d0 : Dev nD) : Nat :=
  let c0_i32_1645 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1644 : BitVec 32 := 1#32
  let v2016 : BitVec 32 := Scalar.muli v4 c1_i32_1644
  let v2017 : BitVec 32 := Scalar.addi c0_i32_1645 v2016
  v2017.toNat
def k0_dev71 (d0 : Dev nD) : Nat :=
  let c0_i32_1668 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1667 : BitVec 32 := 1#32
  let v2047 : BitVec 32 := Scalar.muli v5 c1_i32_1667
  let v2048 : BitVec 32 := Scalar.addi c0_i32_1668 v2047
  v2048.toNat
def k0_dev72 (d0 : Dev nD) : Nat :=
  let c0_i32_1691 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1690 : BitVec 32 := 1#32
  let v2078 : BitVec 32 := Scalar.muli v3 c1_i32_1690
  let v2079 : BitVec 32 := Scalar.addi c0_i32_1691 v2078
  v2079.toNat
def k0_dev73 (d0 : Dev nD) : Nat :=
  let c0_i32_1714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1713 : BitVec 32 := 1#32
  let v2109 : BitVec 32 := Scalar.muli v4 c1_i32_1713
  let v2110 : BitVec 32 := Scalar.addi c0_i32_1714 v2109
  v2110.toNat
def k0_dev74 (d0 : Dev nD) : Nat :=
  let c0_i32_1737 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1736 : BitVec 32 := 1#32
  let v2140 : BitVec 32 := Scalar.muli v5 c1_i32_1736
  let v2141 : BitVec 32 := Scalar.addi c0_i32_1737 v2140
  v2141.toNat
def k0_dev75 (d0 : Dev nD) : Nat :=
  let c0_i32_1760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1759 : BitVec 32 := 1#32
  let v2171 : BitVec 32 := Scalar.muli v3 c1_i32_1759
  let v2172 : BitVec 32 := Scalar.addi c0_i32_1760 v2171
  v2172.toNat
def k0_dev76 (d0 : Dev nD) : Nat :=
  let c0_i32_1873 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1872 : BitVec 32 := 1#32
  let v2285 : BitVec 32 := Scalar.muli v3 c1_i32_1872
  let v2286 : BitVec 32 := Scalar.addi c0_i32_1873 v2285
  v2286.toNat
def k0_dev77 (d0 : Dev nD) : Nat :=
  let c0_i32_1881 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1880 : BitVec 32 := 1#32
  let v2295 : BitVec 32 := Scalar.muli v4 c1_i32_1880
  let v2296 : BitVec 32 := Scalar.addi c0_i32_1881 v2295
  v2296.toNat
def k0_dev78 (d0 : Dev nD) : Nat :=
  let c0_i32_1889 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1888 : BitVec 32 := 1#32
  let v2305 : BitVec 32 := Scalar.muli v5 c1_i32_1888
  let v2306 : BitVec 32 := Scalar.addi c0_i32_1889 v2305
  v2306.toNat
def k0_dev79 (d0 : Dev nD) : Nat :=
  let c0_i32_1941 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_1940 : BitVec 32 := 1#32
  let v2370 : BitVec 32 := Scalar.muli v3 c1_i32_1940
  let v2371 : BitVec 32 := Scalar.addi c0_i32_1941 v2370
  v2371.toNat
def k0_dev80 (d0 : Dev nD) : Nat :=
  let c0_i32_1949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_1948 : BitVec 32 := 1#32
  let v2380 : BitVec 32 := Scalar.muli v4 c1_i32_1948
  let v2381 : BitVec 32 := Scalar.addi c0_i32_1949 v2380
  v2381.toNat
def k0_dev81 (d0 : Dev nD) : Nat :=
  let c0_i32_1957 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_1956 : BitVec 32 := 1#32
  let v2390 : BitVec 32 := Scalar.muli v5 c1_i32_1956
  let v2391 : BitVec 32 := Scalar.addi c0_i32_1957 v2390
  v2391.toNat
def k0_dev82 (d0 : Dev nD) : Nat :=
  let c0_i32_2009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_2008 : BitVec 32 := 1#32
  let v2455 : BitVec 32 := Scalar.muli v3 c1_i32_2008
  let v2456 : BitVec 32 := Scalar.addi c0_i32_2009 v2455
  v2456.toNat
def k0_dev83 (d0 : Dev nD) : Nat :=
  let c0_i32_2017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_2016 : BitVec 32 := 1#32
  let v2465 : BitVec 32 := Scalar.muli v4 c1_i32_2016
  let v2466 : BitVec 32 := Scalar.addi c0_i32_2017 v2465
  v2466.toNat
def k0_dev84 (d0 : Dev nD) : Nat :=
  let c0_i32_2025 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_2024 : BitVec 32 := 1#32
  let v2475 : BitVec 32 := Scalar.muli v5 c1_i32_2024
  let v2476 : BitVec 32 := Scalar.addi c0_i32_2025 v2475
  v2476.toNat
def k0_dev85 (d0 : Dev nD) : Nat :=
  let c0_i32_2077 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.xori v2 c2_i32
  let c1_i32_2076 : BitVec 32 := 1#32
  let v2540 : BitVec 32 := Scalar.muli v3 c1_i32_2076
  let v2541 : BitVec 32 := Scalar.addi c0_i32_2077 v2540
  v2541.toNat
def k0_dev86 (d0 : Dev nD) : Nat :=
  let c0_i32_2085 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  let c1_i32_2084 : BitVec 32 := 1#32
  let v2550 : BitVec 32 := Scalar.muli v4 c1_i32_2084
  let v2551 : BitVec 32 := Scalar.addi c0_i32_2085 v2550
  v2551.toNat
def k0_dev87 (d0 : Dev nD) : Nat :=
  let c0_i32_2093 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.subi c3_i32 v2
  let c1_i32_2092 : BitVec 32 := 1#32
  let v2560 : BitVec 32 := Scalar.muli v5 c1_i32_2092
  let v2561 : BitVec 32 := Scalar.addi c0_i32_2093 v2560
  v2561.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1024x256 : Shape := ⟨2, ![1024, 256]⟩
abbrev S256x2048 : Shape := ⟨2, ![256, 2048]⟩
abbrev S2048x256 : Shape := ⟨2, ![2048, 256]⟩
abbrev S1024x2048 : Shape := ⟨2, ![1024, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x2048, .bf16⟩
  | .hbm, ⟨2, _⟩ => ⟨S256x2048, .bf16⟩
  | .hbm, ⟨3, _⟩ => ⟨S256x2048, .bf16⟩
  | .hbm, ⟨4, _⟩ => ⟨S2048x256, .bf16⟩
  | .hbm, ⟨5, _⟩ => ⟨S2048x256, .bf16⟩
  | .hbm, ⟨6, _⟩ => ⟨S2048x256, .bf16⟩
  | .hbm, ⟨7, _⟩ => ⟨S1024x2048, .f32⟩
  | .hbm, ⟨8, _⟩ => ⟨S1024x2048, .bf16⟩
  | .hbm, ⟨9, _⟩ => ⟨S_, .bf16⟩
  | .hbm, ⟨10, _⟩ => ⟨S1024x2048, .bf16⟩
  | .hbm, ⟨11, _⟩ => ⟨S1024x2048, .bf16⟩
  | .hbm, ⟨12, _⟩ => ⟨S1024x256, .f32⟩
  | .hbm, ⟨13, _⟩ => ⟨S1024x256, .bf16⟩
  | .hbm, ⟨14, _⟩ => ⟨S1024x2048, .f32⟩
  | .hbm, ⟨15, _⟩ => ⟨S1024x2048, .bf16⟩
  | .hbm, ⟨16, _⟩ => ⟨S_, .bf16⟩
  | .hbm, ⟨17, _⟩ => ⟨S1024x2048, .bf16⟩
  | .hbm, ⟨18, _⟩ => ⟨S1024x2048, .bf16⟩
  | .hbm, ⟨19, _⟩ => ⟨S1024x256, .f32⟩
  | .hbm, ⟨20, _⟩ => ⟨S1024x256, .bf16⟩
  | .hbm, ⟨21, _⟩ => ⟨S1024x2048, .f32⟩
  | .hbm, ⟨22, _⟩ => ⟨S1024x2048, .bf16⟩
  | .hbm, ⟨23, _⟩ => ⟨S_, .bf16⟩
  | .hbm, ⟨24, _⟩ => ⟨S1024x2048, .bf16⟩
  | .hbm, ⟨25, _⟩ => ⟨S1024x2048, .bf16⟩
  | .hbm, ⟨26, _⟩ => ⟨S1024x256, .f32⟩
  | .hbm, ⟨27, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Proof.KernelIdeal.Shape.lean ====
/-
The kernel body written with loops.

The printed body is one straight line of some six hundred effects, cut into parts at arbitrary places. Here the same
line is written down by its structure — pieces `h` of sixty-four rows, peers `j`, layers `l` — in continuation form,
so that the proof can treat each kind of step once. `body_shape` says that the two are the same program.
-/
module

public import proofs.«01_k».proof.Proof.Gen.KernelIdeal
public import proofs.«01_k».proof.Proof.Gen.KernelIdeal.Skeleton
public import Idealize.ShloMosaic.Lib.Pipeline.Kit
public import Idealize.ShloMosaic.Lib.Tactic

@[expose] public section

noncomputable section

namespace Cert.KernelIdeal.Mlp

open Cert.KernelIdeal Cert.KernelIdeal.Gen
open Idealize.ShloMosaic Idealize.ShloMosaic.TcCoe
open Idealize.SL Idealize.SL.Sem

variable {F : FTy → Type} [FloatOps F]

/-! ## The peers -/

/-- Peer `j` of device `c`: `c` with the mask 2, 1 or 3 added bitwise. -/
def peer (j : Fin 3) (c : Dev nD) : Dev nD :=
  match j with
  | 0 => ⟨c.val ^^^ 2, by revert c; decide⟩
  | 1 => ⟨c.val ^^^ 1, by revert c; decide⟩
  | 2 => ⟨c.val ^^^ 3, by revert c; decide⟩

/-- A device is its peer's peer. -/
theorem peer_peer (j : Fin 3) (c : Dev nD) : peer j (peer j c) = c := by revert j c; decide

/-- No device is its own peer. -/
theorem peer_ne (j : Fin 3) (c : Dev nD) : peer j c ≠ c := by revert j c; decide

/-- Different peers are different devices. -/
theorem peer_inj (c : Dev nD) : Function.Injective fun j => peer j c := by revert c; decide

/-! ## The buffers, their pieces, the semaphores -/

abbrev xM : Memref sig .tc .vmem S256x256 .bf16 := Memref.whole cc0_stg0_0
abbrev oM : Memref sig .tc .vmem S1024x256 .bf16 := Memref.whole cc0_stg7_0
abbrev fullM : Memref sig .tc .vmem S1024x256 .bf16 := Memref.whole cc0_scratch0
abbrev paccM : Memref sig .tc .vmem S1024x256 .bf16 := Memref.whole cc0_scratch1
abbrev rsM : Memref sig .tc .vmem S3x256x256 .bf16 := Memref.whole cc0_scratch2

/-- Layer `l`'s first weight, as staged. -/
abbrev w1M (l : Fin 3) : Memref sig .tc .vmem S256x512 .bf16 :=
  match l with
  | 0 => Memref.whole cc0_stg1_0
  | 1 => Memref.whole cc0_stg3_0
  | 2 => Memref.whole cc0_stg5_0

/-- Layer `l`'s second weight, as staged. -/
abbrev w2M (l : Fin 3) : Memref sig .tc .vmem S512x256 .bf16 :=
  match l with
  | 0 => Memref.whole cc0_stg2_0
  | 1 => Memref.whole cc0_stg4_0
  | 2 => Memref.whole cc0_stg6_0

/-- Piece `h` of chunk `p`: sixty-four rows. -/
abbrev offP (p : Dev nD) (h : Fin 4) : Fin 2 → Nat := ![256 * p.val + 64 * h.val, 0]
/-- A piece lies in the buffer, -/
theorem offP_inb : ∀ (p : Dev nD) (h : Fin 4), ∀ a, offP p h a + S64x256.size a ≤ S1024x256.size a := by decide +kernel
abbrev rectP (p : Dev nD) (h : Fin 4) : Rect S1024x256 := Rect.unit (s := S1024x256) (offP p h) S64x256.size (offP_inb p h)
/-- begins and ends between packed rows, -/
theorem rectP_packed : ∀ (p : Dev nD) (h : Fin 4), (rectP p h).PackedRows (EltTy.packing .bf16) := by decide +kernel
/-- and is of whole words. -/
theorem rectP_words : ∀ (p : Dev nD) (h : Fin 4), (rectP p h).WholeWords (EltTy.packing .bf16) := by decide +kernel

/-- Chunk `p`: two hundred and fifty-six rows. -/
abbrev offC (p : Dev nD) : Fin 2 → Nat := ![256 * p.val, 0]
/-- A chunk lies in the buffer, -/
theorem offC_inb : ∀ (p : Dev nD), ∀ a, offC p a + S256x256.size a ≤ S1024x256.size a := by decide +kernel
abbrev rectC (p : Dev nD) : Rect S1024x256 := Rect.unit (s := S1024x256) (offC p) S256x256.size (offC_inb p)
/-- and begins and ends between packed rows. -/
theorem rectC_packed : ∀ (p : Dev nD), (rectC p).PackedRows (EltTy.packing .bf16) := by decide +kernel

/-- Slot `(j, h)` of the landing buffer of partial products. -/
abbrev offS (j : Fin 3) (h : Fin 4) : Fin 3 → Nat := ![j.val, 64 * h.val, 0]
/-- A landing slot lies in its buffer, -/
theorem offS_inb : ∀ (j : Fin 3) (h : Fin 4), ∀ a, offS j h a + S1x64x256.size a ≤ S3x256x256.size a := by decide +kernel
abbrev rectS (j : Fin 3) (h : Fin 4) : Rect S3x256x256 := Rect.unit (s := S3x256x256) (offS j h) S1x64x256.size (offS_inb j h)
/-- and is of whole words. -/
theorem rectS_words : ∀ (j : Fin 3) (h : Fin 4), (rectS j h).WholeWords (EltTy.packing .bf16) := by decide +kernel

/-- Piece `h` of chunk `p` of a buffer of all the rows. -/
abbrev rowsM (M : Memref sig .tc .vmem S1024x256 .bf16) (p : Dev nD) (h : Fin 4) : Memref sig .tc .vmem S64x256 .bf16 :=
  M.slice (rectP p h) (fun _ => rfl)
/-- Slot `(j, h)` as a block of sixty-four rows. -/
abbrev slotM (j : Fin 3) (h : Fin 4) : Memref sig .tc .vmem S64x256 .bf16 :=
  (rsM.slice (rectS j h) (fun _ => rfl)).squeeze S64x256 squeezes_S1x64x256_S64x256

/-- A piece's semaphore is one of its array's. -/
theorem offA_inb : ∀ (j : Fin 3) (h : Fin 4), ∀ a, (![4 * j.val + h.val] : Fin 1 → Nat) a + S1.size a ≤ S12.size a := by decide
/-- Semaphore `(j, h)` of an array of twelve. -/
abbrev semA (A : DmaSems sig S12) (j : Fin 3) (h : Fin 4) : DmaSem sig :=
  ((A.slice (Rect.unit (s := S12) ![4 * j.val + h.val] S1.size (offA_inb j h))).squeeze S_ squeezes_S1_S_).sem

abbrev agS (j : Fin 3) (h : Fin 4) : DmaSem sig := semA cc0_scratch3 j h
abbrev agR (j : Fin 3) (h : Fin 4) : DmaSem sig := semA cc0_scratch4 j h
abbrev rsS (j : Fin 3) (h : Fin 4) : DmaSem sig := semA cc0_scratch5 j h
abbrev rsR (j : Fin 3) (h : Fin 4) : DmaSem sig := semA cc0_scratch6 j h
abbrev barS : Sem sig := (SemArray.scalar (sig.barrier 0 rfl) : Sems sig S_).sem

/-- The buffer the activation of round `r` is gathered in: the scratch for the inputs of the three layers, the result
    buffer for the last activation. -/
abbrev buf (r : Fin 4) : Memref sig .tc .vmem S1024x256 .bf16 :=
  match r with
  | 0 => fullM
  | 1 => fullM
  | 2 => fullM
  | 3 => oM

/-- Every activation's buffer is a whole one. -/
theorem buf_whole (r : Fin 4) : (buf r).IsWhole := by
  fin_cases r <;> exact Memref.isWhole_whole _

/-! ## The steps, in continuation form -/

/-- What follows a step. -/
abbrev Prg (F : FTy → Type) [FloatOps F] : Type 1 := Prog (TpuEff nD τ sig (Elt F) Λ₀ .tc) PUnit

/-- Send piece `h` of the device's own chunk of activation `r` to peer `j`. -/
abbrev sendAG (r : Fin 4) (c : Dev nD) (j : Fin 3) (h : Fin 4) (k : Prg F) : Prg F :=
  Prog.op (.enqueueDma (rowsM (buf r) c h) (.remote (Dev.tc (peer j c)) (rowsM (buf r) c h) (.dma (agS j h))) (.dma (agR j h))
    ((buf_whole r).wordExact_slice rfl _ (rectP_words c h)) ((buf_whole r).wordExact_slice rfl _ (rectP_words c h))
    ⟨⟨rfl, Or.inl rfl⟩, trivial⟩) fun _ => k

/-- Wait until that piece has been read out. -/
abbrev waitAGS (r : Fin 4) (c : Dev nD) (j : Fin 3) (h : Fin 4) (k : Prg F) : Prg F :=
  Prog.op (.waitDma2 (agS j h) (rowsM (buf r) c h) (rowsM (buf r) c h)
    ((buf_whole r).wordExact_slice rfl _ (rectP_words c h)) ((buf_whole r).wordExact_slice rfl _ (rectP_words c h))) fun _ => k

/-- Wait until peer `j`'s piece `h` of activation `r` has arrived. -/
abbrev waitAGR (r : Fin 4) (c : Dev nD) (j : Fin 3) (h : Fin 4) (k : Prg F) : Prg F :=
  Prog.op (.waitDma2 (agR j h) (rowsM (buf r) c h) (rowsM (buf r) c h)
    ((buf_whole r).wordExact_slice rfl _ (rectP_words c h)) ((buf_whole r).wordExact_slice rfl _ (rectP_words c h))) fun _ => k

/-- Send the partial product of peer `j`'s piece `h` back to it. -/
abbrev sendRS (c : Dev nD) (j : Fin 3) (h : Fin 4) (k : Prg F) : Prg F :=
  Prog.op (.enqueueDma (rowsM paccM (peer j c) h) (.remote (Dev.tc (peer j c)) (slotM j h) (.dma (rsS j h))) (.dma (rsR j h))
    ((Memref.isWhole_whole cc0_scratch1).wordExact_slice rfl _ (rectP_words (peer j c) h))
    (((Memref.isWhole_whole cc0_scratch2).wordExact_slice rfl _ (rectS_words j h)).reshape _ _)
    ⟨⟨rfl, Or.inl rfl⟩, trivial⟩) fun _ => k

/-- Wait until that partial product has been read out. -/
abbrev waitRSS (c : Dev nD) (j : Fin 3) (h : Fin 4) (k : Prg F) : Prg F :=
  Prog.op (.waitDma2 (rsS j h) (slotM j h) (rowsM paccM (peer j c) h)
    (((Memref.isWhole_whole cc0_scratch2).wordExact_slice rfl _ (rectS_words j h)).reshape _ _)
    ((Memref.isWhole_whole cc0_scratch1).wordExact_slice rfl _ (rectP_words (peer j c) h))) fun _ => k

/-- Wait until peer `j`'s partial product of the device's own piece `h` has arrived. -/
abbrev waitRSR (c : Dev nD) (j : Fin 3) (h : Fin 4) (k : Prg F) : Prg F :=
  Prog.op (.waitDma2 (rsR j h) (rowsM paccM (peer j c) h) (slotM j h)
    ((Memref.isWhole_whole cc0_scratch1).wordExact_slice rfl _ (rectP_words (peer j c) h))
    (((Memref.isWhole_whole cc0_scratch2).wordExact_slice rfl _ (rectS_words j h)).reshape _ _)) fun _ => k

/-- Read a piece of a buffer of all the rows. -/
abbrev loadP (M : Memref sig .tc .vmem S1024x256 .bf16) (p : Dev nD) (h : Fin 4) (k : Vec F S64x256 .bf16 → Prg F) : Prg F :=
  Prog.op (.load M (rectP p h).toLoadRect (View.loadsAt_vmem h_S64x256)) k

/-- Write a piece of a buffer of all the rows. -/
abbrev storeP (M : Memref sig .tc .vmem S1024x256 .bf16) (hM : M.IsWhole) (p : Dev nD) (h : Fin 4) (v : FVec F S64x256 .bf16) (k : Prg F) : Prg F :=
  Prog.op (.store M (rectP p h) v Finset.univ
    (View.stores_vmem h_S64x256 (hM.storeExact_slice rfl _ (rectP_packed p h)) (fun _ => rfl)) (.inl rfl)) fun _ => k

/-- Read a slot of the landing buffer. -/
abbrev loadS (j : Fin 3) (h : Fin 4) (k : Vec F S1x64x256 .bf16 → Prg F) : Prg F :=
  Prog.op (.load rsM (rectS j h).toLoadRect (View.loadsAt_vmem h_S1x64x256)) k

abbrev r512a : Rect S256x512 := Rect.unit (s := S256x512) ![0, 0] S256x512.size inb_S256x512_S256x512_0_0
abbrev r512b : Rect S512x256 := Rect.unit (s := S512x256) ![0, 0] S512x256.size inb_S512x256_S512x256_0_0
abbrev r256 : Rect S256x256 := Rect.unit (s := S256x256) ![0, 0] S256x256.size inb_S256x256_S256x256_0_0

/-- Read layer `l`'s weights. -/
abbrev loadW (l : Fin 3) (k : FVec F S256x512 .bf16 → FVec F S512x256 .bf16 → Prg F) : Prg F :=
  Prog.op (.load (w1M l) r512a.toLoadRect (View.loadsAt_vmem h_S256x512)) fun a =>
    Prog.op (.load (w2M l) r512b.toLoadRect (View.loadsAt_vmem h_S512x256)) fun b => k (k0_pay2 a) (k0_pay3 b)

/-- The partial product of a piece: the piece through both weights. -/
abbrev mlp (w1 : FVec F S256x512 .bf16) (w2 : FVec F S512x256 .bf16) (x : FVec F S64x256 .bf16) : FVec F S64x256 .bf16 := k0_pay21 w1 w2 x

/-- Compute the partial product of piece `(p, h)`. -/
abbrev mlpP (w1 : FVec F S256x512 .bf16) (w2 : FVec F S512x256 .bf16) (p : Dev nD) (h : Fin 4) (k : Prg F) : Prg F :=
  loadP fullM p h fun v => loadP paccM p h fun _ => storeP paccM (Memref.isWhole_whole _) p h (mlp w1 w2 v) k

/-- The sum of the four partial products of a piece in layer `l`: the device's own, then its peers' in order. -/
abbrev sumV (l : Fin 3) : Vec F S64x256 .bf16 → Vec F S1x64x256 .bf16 → Vec F S1x64x256 .bf16 → Vec F S1x64x256 .bf16 → FVec F S64x256 .bf16 :=
  match l with
  | 0 => k0_pay22
  | 1 => k0_pay22
  | 2 => k0_pay82

/-- Do `f` at each item of a list, in order. -/
abbrev each {α : Type} {β : Type 1} (L : List α) (f : α → β → β) (k : β) : β := L.foldr f k

abbrev hs : List (Fin 4) := [0, 1, 2, 3]
abbrev js : List (Fin 3) := [0, 1, 2]
/-- The peers in the order their pieces are waited for. -/
abbrev ws : List (Fin 3) := [1, 2, 0]

/-- Send one piece to every peer. -/
abbrev sendPiece (r : Fin 4) (c : Dev nD) (h : Fin 4) (k : Prg F) : Prg F := each js (fun j => sendAG r c j h) k

/-- Take every peer's piece as it arrives, and send back its partial product. -/
abbrev arrivals (l : Fin 3) (c : Dev nD) (w1 : FVec F S256x512 .bf16) (w2 : FVec F S512x256 .bf16) (k : Prg F) : Prg F :=
  each hs (fun h k => each ws (fun j k => waitAGR l.castSucc c j h (mlpP w1 w2 (peer j c) h (sendRS c j h k))) k) k

/-- Wait until the device's own pieces have been read out. -/
abbrev drainAG (r : Fin 4) (c : Dev nD) (k : Prg F) : Prg F :=
  each hs (fun h k => each js (fun j k => waitAGS r c j h k) k) k

/-- Wait until the device's partial products have been read out. -/
abbrev drainRS (c : Dev nD) (k : Prg F) : Prg F :=
  each js (fun j k => each hs (fun h k => waitRSS c j h k) k) k

/-- Add up the four partial products of the device's own piece and store the sum in the next activation. -/
abbrev sumP (l : Fin 3) (c : Dev nD) (h : Fin 4) (k : Prg F) : Prg F :=
  loadP paccM c h fun a => loadS 0 h fun b0 => loadS 1 h fun b1 => loadS 2 h fun b2 =>
    loadP (buf l.succ) c h fun _ => storeP (buf l.succ) (buf_whole _) c h (sumV l a b0 b1 b2) k

/-- A layer's own pieces: each computed, its sum taken over the four devices, and sent on. -/
abbrev ownPieces (l : Fin 3) (c : Dev nD) (w1 : FVec F S256x512 .bf16) (w2 : FVec F S512x256 .bf16) (k : Prg F) : Prg F :=
  each hs (fun h k => mlpP w1 w2 c h (each js (fun j k => waitRSR c j h k) (sumP l c h (sendPiece l.succ c h k)))) k

/-- Signal every peer's barrier and wait for theirs. -/
abbrev barrier (c : Dev nD) (k : Prg F) : Prg F :=
  each js (fun j k => Prog.op (.semSignal (Dev.tc (peer j c)) barS 1) fun _ => k) (Prog.op (.semWait barS 3) fun _ => k)

/-- Copy the device's block of `x` into its chunk. -/
abbrev storeX (c : Dev nD) (k : Prg F) : Prg F :=
  Prog.op (.load xM r256.toLoadRect (View.loadsAt_vmem h_S256x256)) fun v =>
    Prog.op (.load fullM (rectC c).toLoadRect (View.loadsAt_vmem h_S256x256)) fun _ =>
      Prog.op (.store fullM (rectC c) (k0_pay1 v) Finset.univ
        (View.stores_vmem h_S256x256 ((Memref.isWhole_whole cc0_scratch0).storeExact_slice rfl _ (rectC_packed c)) (fun _ => rfl)) (.inl rfl)) fun _ => k

/-- A middle layer: own pieces, partial products drained, the next weights, the next arrivals, own pieces drained. -/
abbrev layer (l : Fin 2) (c : Dev nD) (w1 : FVec F S256x512 .bf16) (w2 : FVec F S512x256 .bf16)
    (k : FVec F S256x512 .bf16 → FVec F S512x256 .bf16 → Prg F) : Prg F :=
  ownPieces l.castSucc c w1 w2 <| drainRS c <| loadW l.succ fun w1' w2' =>
    arrivals l.succ c w1' w2' <| drainAG l.succ.castSucc c <| k w1' w2'

/-- The whole body after the device has read its number. -/
def prog (c : Dev nD) : Prg F :=
  barrier c <| storeX c <| each hs (fun h => sendPiece 0 c h) <| loadW 0 fun w1 w2 =>
    arrivals 0 c w1 w2 <| drainAG 0 c <|
    layer 0 c w1 w2 fun w1 w2 => layer 1 c w1 w2 fun w1 w2 =>
    ownPieces 2 c w1 w2 <| drainRS c <|
    each hs (fun h k => each js (fun j k => waitAGR 3 c j h k) k) <| drainAG 3 c <| Prog.ret ⟨⟩

/-- The printed body. -/
abbrev printed : Prg F :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6

/-- What a program does once it has read the device's number. -/
def onDev (p : Prg F) (c : Dev nD) : Prg F :=
  match p with
  | Prog.op .deviceId k => k c
  | p => p

/-- The printed body first reads the device's number. -/
theorem printed_reads : ∃ k : Dev nD → Prg F, printed (F := F) = Prog.op .deviceId k := ⟨_, rfl⟩

/-- The body printed is the short program, on device 0, -/
theorem shape0 : onDev (F := F) printed 0 = prog 0 := by sl_kernel_rfl
/-- on device 1, -/
theorem shape1 : onDev (F := F) printed 1 = prog 1 := by sl_kernel_rfl
/-- on device 2, -/
theorem shape2 : onDev (F := F) printed 2 = prog 2 := by sl_kernel_rfl
/-- and on device 3. -/
theorem shape3 : onDev (F := F) printed 3 = prog 3 := by sl_kernel_rfl

/-- The printed body is the structured one, after the device's number has been read. -/
theorem body_shape : ∃ k : Dev nD → Prg F, printed (F := F) = Prog.op .deviceId k ∧ ∀ c, k c = prog c := by
  obtain ⟨k, hk⟩ := printed_reads (F := F)
  refine ⟨k, hk, fun c => ?_⟩
  have h : onDev (F := F) printed c = prog c := by
    match c with
    | 0 => exact shape0
    | 1 => exact shape1
    | 2 => exact shape2
    | 3 => exact shape3
  rw [hk] at h
  exact h

end Cert.KernelIdeal.Mlp

end
-- ==== Proof.KernelIdeal.Common.lean ====
/-
The protocol of the three-layer kernel.

Every device signals the barrier of its three peers, handing each of them the pieces of its gathering buffer that this
peer will fill. After that everything travels by remote copies of sixty-four rows. In round `r` a device sends the four
pieces of its chunk of activation `r` to its peers ("gather"); together with a piece goes the landing slot that the
peer will fill in return. A peer computes its partial product of the piece and sends it back into that slot
("scatter"); together with it goes the right to fill the same rows of the next activation's buffer. So whenever a copy
is started its target belongs to the sender, and whenever a buffer is read or written it belongs to the device.
-/
module

public import proofs.«01_k».proof.Proof.KernelIdeal.Shape
public import proofs.«01_k».proof.Proof.Gen.KernelIdeal.Launch
public import Idealize.ShloMosaic.Lib.Pipeline.Launch
public import Idealize.ShloMosaic.Lib.Pipeline.Kit
public import Idealize.ShloMosaic.Lib.StableHlo.CollectiveRules
public import Idealize.ShloMosaic.Lib.Tactic

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The rounds of the kernel's own semaphores: at most three duties a round. -/
abbrev UM : Type := URounds (GSem nD τ sig) (Fin 3)
abbrev UU : Type := UR sig nD τ × UM

local notation "𝕄" => MT nD τ sig ℕ (Elt F) ℕ UU ℕ

abbrev EP : Emb (UR sig nD τ) (MT nD τ sig ℕ (Elt F) ℕ UU ℕ) := embL
abbrev ER : Emb UM (MT nD τ sig ℕ (Elt F) ℕ UU ℕ) := embR

variable (m : (ℓ : Loc nD τ sig) → Buf (Elt F) ℓ) (ρ : Dev nD → PrngReg)

/-- The memory at launch: arbitrary contents, all counters zero. -/
def s₀ : MemSt nD τ sig (Elt F) := ⟨m, fun _ => 0, ρ⟩

/-! ## The semaphores -/

/-- A copy semaphore: which array (gather send, gather receive, scatter send, scatter receive), peer, piece. -/
abbrev Ky : Type := Fin 4 × Fin 3 × Fin 4

abbrev dsem (k : Ky) : SemLoc sig :=
  match k with
  | (0, j, h) => .dma (agS j h)
  | (1, j, h) => .dma (agR j h)
  | (2, j, h) => .dma (rsS j h)
  | (3, j, h) => .dma (rsR j h)

/-- All the kernel's semaphores: the barrier and the copy semaphores. -/
abbrev csem (i : Option Ky) : SemLoc sig :=
  match i with
  | none => .reg barS
  | some k => dsem k

/-- Different names are different semaphores; -/
theorem csem_injective : Function.Injective csem := by decide +kernel
/-- so are the copy semaphores of different names. -/
theorem dsem_injective : Function.Injective dsem := fun a b h => Option.some_injective _ (csem_injective (a₁ := some a) (a₂ := some b) h)

abbrev kcell (ck : Dev nD × Option Ky) : GSem nD τ sig := ((ck.1 : Thread nD τ), csem ck.2)
abbrev barC (c : Dev nD) : GSem nD τ sig := ((c : Thread nD τ), .reg barS)
abbrev dcell (k : Ky) (c : Dev nD) : GSem nD τ sig := ((c : Thread nD τ), dsem k)

/-- Which of the kernel's semaphores a location is, if any. -/
def nameOf (s : SemLoc sig) : Option (Option Ky) := Function.partialInv csem s
/-- A semaphore's name is read back, -/
theorem nameOf_csem (i : Option Ky) : nameOf (csem i) = some i := Function.partialInv_left csem_injective i
/-- the barrier's, -/
theorem nameOf_bar : nameOf (.reg barS) = some none := nameOf_csem none
/-- a copy semaphore's; -/
theorem nameOf_dsem (k : Ky) : nameOf (dsem k) = some (some k) := nameOf_csem (some k)
/-- a semaphore that has a name is the one so named. -/
theorem nameOf_eq {s : SemLoc sig} {i : Option Ky} (h : nameOf s = some i) : csem i = s :=
  (Function.partialInv_of_injective csem_injective i s).mp h

/-- The credit of one piece. -/
abbrev N : ℕ := (rowsM fullM 0 0).view.dmaCredit
/-- A piece is not empty. -/
theorem N_pos : 0 < N := View.dmaCredit_pos _ (by decide)

/-! ## Contents -/

/-- The device's block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The device's block of layer `l`'s first weight, as staged. -/
def w1stg (l : Fin 3) (c : Dev nD) : S256x512.Idx → Elt F .bf16 :=
  match l with
  | 0 => (win0_1.blk (0 : Fin 1)).view.read (Elt F) ((s₀ m ρ).mem ((c : Thread nD τ).loc main_arg1))
  | 1 => (win0_3.blk (0 : Fin 1)).view.read (Elt F) ((s₀ m ρ).mem ((c : Thread nD τ).loc main_arg2))
  | 2 => (win0_5.blk (0 : Fin 1)).view.read (Elt F) ((s₀ m ρ).mem ((c : Thread nD τ).loc main_arg3))

/-- The device's block of layer `l`'s second weight, as staged. -/
def w2stg (l : Fin 3) (c : Dev nD) : S512x256.Idx → Elt F .bf16 :=
  match l with
  | 0 => (win0_2.blk (0 : Fin 1)).view.read (Elt F) ((s₀ m ρ).mem ((c : Thread nD τ).loc main_arg4))
  | 1 => (win0_4.blk (0 : Fin 1)).view.read (Elt F) ((s₀ m ρ).mem ((c : Thread nD τ).loc main_arg5))
  | 2 => (win0_6.blk (0 : Fin 1)).view.read (Elt F) ((s₀ m ρ).mem ((c : Thread nD τ).loc main_arg6))

/-- The weights as the body uses them. -/
abbrev W1 (l : Fin 3) (c : Dev nD) : FVec F S256x512 .bf16 := k0_pay2 (w1stg m ρ l c)
abbrev W2 (l : Fin 3) (c : Dev nD) : FVec F S512x256 .bf16 := k0_pay3 (w2stg m ρ l c)

/-- Sixty-four of two hundred and fifty-six rows. -/
abbrev offX (h : Fin 4) : Fin 2 → Nat := ![64 * h.val, 0]
/-- A quarter of the input's rows lies in it. -/
theorem offX_inb : ∀ (h : Fin 4), ∀ a, offX h a + S64x256.size a ≤ S256x256.size a := by decide
abbrev rectX (h : Fin 4) : Rect S256x256 := Rect.unit (s := S256x256) (offX h) S64x256.size (offX_inb h)

abbrev Piece (F : FTy → Type) [FloatOps F] : Type := S64x256.Idx → Elt F .bf16

/-- A piece with a leading dimension of one, as the landing buffer holds it. -/
abbrev lift (x : Piece F) : Vec F S1x64x256 .bf16 := shapeCast S1x64x256 x squeezes_S1x64x256_S64x256.numel_eq.symm

/-- Device `d`'s partial product, in layer `l`, of piece `h` of chunk `p`, the activation being `A`. -/
def partOf (l : Fin 3) (A : Dev nD → Fin 4 → Piece F) (d p : Dev nD) (h : Fin 4) : Piece F :=
  mlp (W1 m ρ l d) (W2 m ρ l d) (A p h)

/-- The activation after layer `l`, from the one before: chunk `p` is summed by device `p`. -/
def next (l : Fin 3) (A : Dev nD → Fin 4 → Piece F) (p : Dev nD) (h : Fin 4) : Piece F :=
  sumV l (partOf m ρ l A p p h) (lift (partOf m ρ l A (peer 0 p) p h)) (lift (partOf m ρ l A (peer 1 p) p h))
    (lift (partOf m ρ l A (peer 2 p) p h))

/-- The input of the first layer. -/
def act0 (p : Dev nD) (h : Fin 4) : Piece F := fun i => k0_pay1 (xstg m ρ p) ((rectX h).emb i)

/-- Activation `r`, by chunk and piece. -/
def act (r : Fin 4) : Dev nD → Fin 4 → Piece F :=
  match r with
  | 0 => act0 m ρ
  | 1 => next m ρ 0 (act0 m ρ)
  | 2 => next m ρ 1 (next m ρ 0 (act0 m ρ))
  | 3 => next m ρ 2 (next m ρ 1 (next m ρ 0 (act0 m ρ)))

/-- An activation is one layer of the one before it. -/
theorem act_succ (l : Fin 3) : act m ρ l.succ = next m ρ l (act m ρ l.castSucc) := by fin_cases l <;> rfl

/-- Device `d`'s partial product of piece `(p, h)` in layer `l`. -/
abbrev part (l : Fin 3) (d p : Dev nD) (h : Fin 4) : Piece F := partOf m ρ l (act m ρ l.castSucc) d p h

/-! ## Pieces owned -/

/-- The share of a piece that travels with the copy to peer `j`. -/
def shr (j : Fin 3) : PosShare TreeShare :=
  match j with
  | 0 => fullShare.left
  | 1 => fullShare.right.left
  | 2 => fullShare.right.right

/-- Device `c` holds a piece at known contents; at some contents; a landing slot likewise. -/
def ownP (M : Memref sig .tc .vmem S1024x256 .bf16) (c p : Dev nD) (h : Fin 4) (q : PosShare TreeShare) (V : Piece F) : sProp 𝕄 :=
  owns (c : Thread nD τ) (rowsM M p h) q V
def anyP (M : Memref sig .tc .vmem S1024x256 .bf16) (c p : Dev nD) (h : Fin 4) : sProp 𝕄 := iprop(∃ V : Piece F, ownP M c p h fullShare V)
def ownS (c : Dev nD) (j : Fin 3) (h : Fin 4) (V : Piece F) : sProp 𝕄 := owns (c : Thread nD τ) (slotM j h) fullShare V
def anyS (c : Dev nD) (j : Fin 3) (h : Fin 4) : sProp 𝕄 := iprop(∃ V : Piece F, ownS c j h V)

instance ownP_storable (M c p h q) (V : Piece F) : BI.Storable (upEmb : UEmb _ 𝕄) (ownP M c p h q V) := by unfold ownP; infer_instance
instance anyP_storable (M c p h) : BI.Storable (upEmb : UEmb _ 𝕄) (anyP (F := F) M c p h) := by unfold anyP; infer_instance
instance ownS_storable (c j h) (V : Piece F) : BI.Storable (upEmb : UEmb _ 𝕄) (ownS c j h V) := by unfold ownS; infer_instance
instance anyS_storable (c j h) : BI.Storable (upEmb : UEmb _ 𝕄) (anyS (F := F) c j h) := by unfold anyS; infer_instance

/-- A piece at known contents is one at some; -/
theorem ownP_any (M c p h) (V : Piece F) : (ownP M c p h fullShare V : sProp 𝕄) ⊢ anyP M c p h := by
  unfold anyP; iintro H; iexists V; iexact H
/-- a landing slot at known contents is one at some. -/
theorem ownS_any (c j h) (V : Piece F) : (ownS c j h V : sProp 𝕄) ⊢ anyS c j h := by
  unfold anyS; iintro H; iexists V; iexact H

/-- A piece held outright is its three shares. -/
theorem ownP_shares (M c p h) (V : Piece F) :
    (ownP M c p h fullShare V : sProp 𝕄) ⊣⊢ bigSep Finset.univ fun j => ownP M c p h (shr j) V := by
  rw [bigSep_univ_eq_bigSepL js (by decide) (by decide), bigSepL_cons_cons, bigSepL_cons_cons, bigSepL_singleton]
  unfold ownP
  refine ⟨((owns_share _ _ (PosShare.mem_left_op_right fullShare) V).1).trans (sep_mono_r ?_),
    (sep_mono_r ?_).trans (owns_share _ _ (PosShare.mem_left_op_right fullShare) V).2⟩
  · exact (owns_share _ _ (PosShare.mem_left_op_right fullShare.right) V).1
  · exact (owns_share _ _ (PosShare.mem_left_op_right fullShare.right) V).2

/-! ## The schedule -/

/-- What lets device `c` fill its rows at peer `j`'s buffer of activation `r`. -/
def grant (r : Fin 4) (c : Dev nD) (j : Fin 3) (h : Fin 4) : sProp 𝕄 :=
  iprop(anyP (buf r) (peer j c) c h ∗ reached ER (dcell (1, j, h) (peer j c)) r.val)

/-- What goes along with a gathered piece from device `c`: the slot its partial product is to land in. -/
def offer (r : Fin 4) (c : Dev nD) (j : Fin 3) (h : Fin 4) : sProp 𝕄 :=
  if r.val < 3 then iprop(anyS c j h ∗ reached ER (dcell (3, j, h) c) r.val) else iprop(emp)

/-- The barrier duty that peer `j` pays device `c`. -/
def barPay (c : Dev nD) (j : Fin 3) : sProp 𝕄 := bigSep Finset.univ fun h => grant 0 c j h

/-- The payloads of the copy semaphores of device `c` in round `r`. -/
def agsPay (r : Fin 4) (c : Dev nD) (j : Fin 3) (h : Fin 4) : sProp 𝕄 := ownP (buf r) c c h (shr j) (act m ρ r c h)
def agrPay (r : Fin 4) (c : Dev nD) (j : Fin 3) (h : Fin 4) : sProp 𝕄 :=
  iprop(ownP (buf r) c (peer j c) h fullShare (act m ρ r (peer j c) h) ∗ offer r (peer j c) j h)
def rssPay (l : Fin 3) (c : Dev nD) (j : Fin 3) (h : Fin 4) : sProp 𝕄 := ownP paccM c (peer j c) h fullShare (part m ρ l c (peer j c) h)
def rsrPay (l : Fin 3) (c : Dev nD) (j : Fin 3) (h : Fin 4) : sProp 𝕄 :=
  iprop(ownS c j h (part m ρ l (peer j c) c h) ∗ grant l.succ c j h)

instance grant_storable (r c j h) : BI.Storable (upEmb : UEmb _ 𝕄) (grant (F := F) r c j h) := by unfold grant; infer_instance
instance offer_storable (r c j h) : BI.Storable (upEmb : UEmb _ 𝕄) (offer (F := F) r c j h) := by unfold offer; split <;> infer_instance
instance barPay_storable (c j) : BI.Storable (upEmb : UEmb _ 𝕄) (barPay (F := F) c j) := by unfold barPay; infer_instance
instance agsPay_storable (r c j h) : BI.Storable (upEmb : UEmb _ 𝕄) (agsPay (F := F) m ρ r c j h) := by unfold agsPay; infer_instance
instance agrPay_storable (r c j h) : BI.Storable (upEmb : UEmb _ 𝕄) (agrPay (F := F) m ρ r c j h) := by unfold agrPay; infer_instance
instance rssPay_storable (r c j h) : BI.Storable (upEmb : UEmb _ 𝕄) (rssPay (F := F) m ρ r c j h) := by unfold rssPay; infer_instance
instance rsrPay_storable (r c j h) : BI.Storable (upEmb : UEmb _ 𝕄) (rsrPay (F := F) m ρ r c j h) := by unfold rsrPay; infer_instance

/-- How many rounds a copy semaphore has: four when gathering, three when scattering. -/
abbrev cap (k : Ky) : ℕ := match k with
  | (0, _, _) => 4
  | (1, _, _) => 4
  | (2, _, _) => 3
  | (3, _, _) => 3

/-- The payload of copy semaphore `k` of device `c` in round `r`. -/
def dpay (k : Ky) (c : Dev nD) (r : ℕ) : sProp 𝕄 :=
  match k with
  | (0, j, h) => if hr : r < 4 then agsPay m ρ ⟨r, hr⟩ c j h else iprop(emp)
  | (1, j, h) => if hr : r < 4 then agrPay m ρ ⟨r, hr⟩ c j h else iprop(emp)
  | (2, j, h) => if hr : r < 3 then rssPay m ρ ⟨r, hr⟩ c j h else iprop(emp)
  | (3, j, h) => if hr : r < 3 then rsrPay m ρ ⟨r, hr⟩ c j h else iprop(emp)

instance dpay_storable (k c r) : BI.Storable (upEmb : UEmb _ 𝕄) (dpay (F := F) m ρ k c r) := by
  obtain ⟨k, j, h⟩ := k
  fin_cases k <;> (dsimp only [dpay]; split <;> infer_instance)

/-- The barrier: one round of three duties of one unit. A copy semaphore: one duty a round, of one piece's credit. -/
def Rd : Rounds.Schedule (GSem nD τ sig) (Fin 3) 𝕄 where
  duties g r := match nameOf g.2 with
    | some none => if r = 0 then Finset.univ else ∅
    | some (some k) => if r < cap k then {0} else ∅
    | none => ∅
  unitless _ := False
  amount g _ _ := match nameOf g.2 with
    | some (some _) => N
    | _ => 1
  payload g r d := match nameOf g.2 with
    | some none => barPay g.1.1 d
    | some (some k) => dpay m ρ k g.1.1 r
    | none => iprop(emp)
  amount_pos g _ _ _ := by
    rcases nameOf g.2 with _ | _ | k
    · exact Nat.one_pos
    · exact Nat.one_pos
    · exact N_pos

instance Rd_payload_storable (g : GSem nD τ sig) (r : ℕ) (d : Fin 3) :
    BI.Storable (upEmb : UEmb _ 𝕄) ((Rd (F := F) m ρ).payload g r d) := by
  show BI.Storable upEmb (match nameOf g.2 with
    | some none => barPay g.1.1 d
    | some (some k) => dpay m ρ k g.1.1 r
    | none => iprop(emp))
  rcases nameOf g.2 with _ | _ | k <;> infer_instance

section Sched
variable (c : Dev nD) (k : Ky)

/-- The barrier of a device is owed one unit by each of three peers, -/
theorem duties_bar : (Rd (F := F) m ρ).duties (barC c) 0 = Finset.univ := by
  dsimp only [Rd]; rw [nameOf_bar]; exact if_pos rfl
/-- and none afterwards. -/
theorem duties_bar_later (r : ℕ) (hr : 1 ≤ r) : (Rd (F := F) m ρ).duties (barC c) r = ∅ := by
  dsimp only [Rd]; rw [nameOf_bar]; exact if_neg (by omega)
/-- A copy semaphore is owed one copy in each of its rounds, -/
theorem duties_copy (r : ℕ) (hr : r < cap k) : (Rd (F := F) m ρ).duties (dcell k c) r = {0} := by
  dsimp only [Rd]; rw [nameOf_dsem]; exact if_pos hr
/-- and none afterwards. -/
theorem duties_copy_later (r : ℕ) (hr : cap k ≤ r) : (Rd (F := F) m ρ).duties (dcell k c) r = ∅ := by
  dsimp only [Rd]; rw [nameOf_dsem]; exact if_neg (by omega)
/-- A barrier unit counts one; -/
theorem amount_bar (d : Fin 3) : (Rd (F := F) m ρ).amount (barC c) 0 d = 1 := by dsimp only [Rd]; rw [nameOf_bar]
/-- a copy counts the words of a piece. -/
theorem amount_copy (r : ℕ) (d : Fin 3) : (Rd (F := F) m ρ).amount (dcell k c) r d = N := by dsimp only [Rd]; rw [nameOf_dsem]
/-- A barrier round is three units; -/
theorem expect_bar : (Rd (F := F) m ρ).expect (barC c) 0 = 3 := by
  unfold Schedule.expect Schedule.amountOf
  rw [duties_bar, Finset.sum_congr rfl fun d _ => amount_bar m ρ c d]; rfl
/-- a copy round is one copy. -/
theorem expect_copy (r : ℕ) (hr : r < cap k) : (Rd (F := F) m ρ).expect (dcell k c) r = N := by
  unfold Schedule.expect Schedule.amountOf; rw [duties_copy m ρ c k r hr, Finset.sum_singleton, amount_copy]
/-- What a barrier unit hands over; -/
theorem payload_bar (d : Fin 3) : (Rd (F := F) m ρ).payload (barC c) 0 d = barPay c d := by dsimp only [Rd]; rw [nameOf_bar]
/-- what a copy hands over. -/
theorem payload_copy (r : ℕ) (d : Fin 3) : (Rd (F := F) m ρ).payload (dcell k c) r d = dpay m ρ k c r := by
  dsimp only [Rd]; rw [nameOf_dsem]
/-- All a barrier round brings; all a copy's round brings. -/
theorem rest_bar : bigSep ((Rd (F := F) m ρ).duties (barC c) 0 \ ∅) (fun d => (Rd (F := F) m ρ).payload (barC c) 0 d)
    = bigSep Finset.univ fun j => barPay c j := by
  rw [Finset.sdiff_empty, duties_bar]; exact bigSep_congr fun d _ => payload_bar m ρ c d
/-- What a copy's round hands over is what its one duty does. -/
theorem rest_copy (r : ℕ) (hr : r < cap k) :
    bigSep ((Rd (F := F) m ρ).duties (dcell k c) r \ ∅) (fun d => (Rd (F := F) m ρ).payload (dcell k c) r d) = dpay m ρ k c r := by
  rw [Finset.sdiff_empty, duties_copy m ρ c k r hr, bigSep_singleton, payload_copy]

end Sched

/-! ## What is owed, and the order of waiting -/

/-- Something a device still has to do for another: a barrier signal, a gathered piece, a partial product. -/
inductive Ob where
  | knock (j : Fin 3)
  | ag (r : Fin 4) (j : Fin 3) (h : Fin 4)
  | rs (l : Fin 3) (j : Fin 3) (h : Fin 4)

/-- The cell it is owed to, the round, the amount. -/
def Ob.cell (c : Dev nD) : Ob → GSem nD τ sig
  | .knock j => barC (peer j c)
  | .ag r j h => dcell (1, j, h) (peer j c)
  | .rs l j h => dcell (3, j, h) (peer j c)
def Ob.ix : Ob → ℕ
  | .knock _ => 0
  | .ag r _ _ => r.val
  | .rs l _ _ => l.val
def Ob.amt : Ob → ℕ
  | .knock _ => 1
  | _ => N
def Ob.tally (c : Dev nD) (o : Ob) : CellTallies nD τ sig ℕ := tallyAt (o.cell c) o.ix o.amt

/-- Its level: later in the program is higher. -/
def Ob.lvl : Ob → ℕ
  | .knock _ => 1
  | .ag r _ _ => 2 + 2 * r.val
  | .rs l _ _ => 3 + 2 * l.val

/-- The tally of a list of things owed. -/
def owed (c : Dev nD) (L : List Ob) : CellTallies nD τ sig ℕ := (L.map (Ob.tally c)).sum
/-- No obligations, nothing owed; -/
theorem owed_nil (c : Dev nD) : owed c [] = 0 := rfl
/-- one more obligation is owed besides the rest. -/
theorem owed_cons (c : Dev nD) (o : Ob) (L : List Ob) : owed c (o :: L) = owed c L + o.tally c := by
  unfold owed; rw [List.map_cons, List.sum_cons, add_comm]

/-- Device `c` owes exactly the list. -/
def owesL (c : Dev nD) (L : List Ob) : sProp 𝕄 := iprop(∃ W, owes (c : Thread nD τ) (owed c L) W)

/-- The indices used at a cell; the level of a cell's round. -/
def Lx (g : GSem nD τ sig) : Finset ℕ := if g.1.2 = .tc then Finset.range 4 else ∅
def lv (g : GSem nD τ sig) (r : ℕ) : ℕ := match nameOf g.2 with
  | some none => 1
  | some (some (1, _, _)) => 2 + 2 * r
  | some (some (3, _, _)) => 3 + 2 * r
  | _ => 0

/-- Only the core that runs the body has rounds to come, -/
theorem Lx_of_ne (g : GSem nD τ sig) (h : g.1.2 ≠ .tc) : Lx g = ∅ := if_neg h
/-- four for each of its semaphores. -/
theorem Lx_tc (c : Dev nD) (s : SemLoc sig) : Lx ((c : Thread nD τ), s) = Finset.range 4 := if_pos rfl

/-- The barrier's level; -/
theorem lv_bar (c : Dev nD) (r : ℕ) : lv (barC c) r = 1 := by unfold lv; rw [nameOf_bar]
/-- the level of a copy semaphore's round. -/
theorem lv_copy (c : Dev nD) (k : Ky) (r : ℕ) : lv (dcell k c) r = match k with
    | (1, _, _) => 2 + 2 * r
    | (3, _, _) => 3 + 2 * r
    | _ => 0 := by unfold lv; rw [nameOf_dsem]; obtain ⟨k, j, h⟩ := k; fin_cases k <;> rfl

/-- An obligation's level is that of the round it pays into, -/
theorem Ob.lv_cell (c : Dev nD) (o : Ob) : lv (o.cell c) o.ix = o.lvl := by
  cases o with
  | knock j => exact lv_bar _ _
  | ag r j h => exact lv_copy _ _ _
  | rs l j h => exact lv_copy _ _ _

/-- which is one of those to come. -/
theorem Ob.ix_mem (c : Dev nD) (o : Ob) : o.ix ∈ Lx (o.cell c) := by
  cases o with
  | knock j => exact (Lx_tc _ _).symm ▸ Finset.mem_range.mpr (show 0 < 4 by decide)
  | ag r j h => exact (Lx_tc _ _).symm ▸ Finset.mem_range.mpr r.isLt
  | rs l j h => exact (Lx_tc _ _).symm ▸ Finset.mem_range.mpr (Nat.lt_succ_of_lt l.isLt)

/-- What is owed anywhere comes from an entry of the list. -/
theorem owed_pos {c : Dev nD} {g : GSem nD τ sig} {u : ℕ} : ∀ {L : List Ob}, 0 < owed c L g u → ∃ o ∈ L, g = o.cell c ∧ u = o.ix
  | [], h => absurd h (Nat.lt_irrefl 0)
  | o :: L, h => by
    rw [owed_cons, Pi.add_apply, Finsupp.add_apply] at h
    by_cases hL : 0 < owed c L g u
    · obtain ⟨o', ho', e⟩ := owed_pos hL
      exact ⟨o', List.mem_cons_of_mem _ ho', e⟩
    · refine ⟨o, List.mem_cons_self, ?_⟩
      by_contra hn
      unfold Ob.tally at h
      rw [tallyAt_apply, if_neg hn] at h
      omega

/-- Everything in a list is at level `v` at least. -/
def Above (v : ℕ) (L : List Ob) : Prop := ∀ o ∈ L, v ≤ o.lvl
/-- Obligations above a level are above any lower one; -/
theorem Above.mono {v w : ℕ} {L : List Ob} (h : Above v L) (hw : w ≤ v) : Above w L := fun o ho => hw.trans (h o ho)
/-- two lists above a level are so together; -/
theorem Above.append {v : ℕ} {L L' : List Ob} (h : Above v L) (h' : Above v L') : Above v (L ++ L') :=
  fun o ho => (List.mem_append.mp ho).elim (h o) (h' o)
/-- the empty list is above every level; -/
theorem Above.nil {v : ℕ} : Above v [] := fun o ho => absurd ho List.not_mem_nil
/-- one more obligation above the level may be added; -/
theorem Above.cons {v : ℕ} {o : Ob} {L : List Ob} (ho : v ≤ o.lvl) (h : Above v L) : Above v (o :: L) :=
  fun o' h' => (List.mem_cons.mp h').elim (fun e => e ▸ ho) (h o')
/-- lists above a level are so strung together. -/
theorem Above.flatMap {α : Type} {v : ℕ} {L : List α} {f : α → List Ob} (h : ∀ x, Above v (f x)) : Above v (L.flatMap f) :=
  fun o ho => by obtain ⟨x, _, hx⟩ := List.mem_flatMap.mp ho; exact h x o hx

/-- A wait at a level below everything owed is allowed. -/
theorem mayWait (c : Dev nD) (s : SemLoc sig) (ι : ℕ) (L : List Ob) (v : ℕ) (hι : ι < 4) (hv : lv ((c : Thread nD τ), s) ι < v) (hL : Above v L) :
    (levAts Lx lv : sProp 𝕄) ⊢ MayWait (c : Thread nD τ) s ι (owed c L) :=
  MayOwe.of_cut (L := Lx) (lev := lv) (lv ((c : Thread nD τ), s) ι)
    (fun p hp => by rw [Finset.mem_singleton.mp hp, Lx_tc]; exact Finset.mem_range.mpr hι)
    (fun g u hg => by obtain ⟨o, _, rfl, rfl⟩ := owed_pos hg; exact o.ix_mem c)
    (fun p hp => by rw [Finset.mem_singleton.mp hp])
    (fun g u hg => by obtain ⟨o, ho, rfl, rfl⟩ := owed_pos hg; rw [o.lv_cell c]; exact lt_of_lt_of_le hv (hL o ho))

/-! ## The list in program order -/

abbrev agOb (r : Fin 4) (h : Fin 4) : List Ob := js.flatMap fun j => [Ob.ag r j h]
abbrev rsOb (l : Fin 3) (h : Fin 4) : List Ob := ws.flatMap fun j => [Ob.rs l j h]
abbrev agL (r : Fin 4) : List Ob := hs.flatMap (agOb r)
abbrev rsL (l : Fin 3) : List Ob := hs.flatMap (rsOb l)
/-- What is left after the arrivals of layer `2`; of layer `1`; of layer `0`; after the barrier; at the start. -/
abbrev rest2 : List Ob := agL 3 ++ []
abbrev rest1 : List Ob := agL 2 ++ (rsL 2 ++ rest2)
abbrev rest0 : List Ob := agL 1 ++ (rsL 1 ++ rest1)
abbrev restB : List Ob := agL 0 ++ (rsL 0 ++ rest0)
abbrev restS : List Ob := js.flatMap (fun j => [Ob.knock j]) ++ restB

/-- The gather's obligations for a piece are above the levels before it; -/
theorem agOb_above (r h) : Above (2 + 2 * r.val) (agOb r h) := Above.flatMap fun j => Above.cons le_rfl Above.nil
/-- the reduction's likewise. -/
theorem rsOb_above (l h) : Above (3 + 2 * l.val) (rsOb l h) := Above.flatMap fun j => Above.cons le_rfl Above.nil
/-- The gather's obligations of a whole activation are above the levels before it; -/
theorem agL_above (r) : Above (2 + 2 * r.val) (agL r) := Above.flatMap (agOb_above r)
/-- the reduction's of a whole layer likewise. -/
theorem rsL_above (l) : Above (3 + 2 * l.val) (rsL l) := Above.flatMap (rsOb_above l)

/-! ## The cells' invariants -/

/-- All cells' invariants, at the names `K`, and the levels. -/
def recs (K : Dev nD × Option Ky → ℕ) : sProp 𝕄 :=
  iprop((bigSep Finset.univ fun ck => cellInv ER (Rd m ρ) (K ck) (kcell ck)) ∗ levAts Lx lv)

instance recs_persistent (K) : BI.Persistent (recs (F := F) m ρ K) := by unfold recs; infer_instance

/-- Among the records is that of a device's barrier, -/
theorem recs_bar (K) (c : Dev nD) : recs m ρ K ⊢ cellInv ER (Rd m ρ) (K (c, none)) (barC c) := by
  unfold recs
  exact sep_elim_left.trans (bigSep_elim (Finset.mem_univ (c, (none : Option Ky))))
/-- that of each copy semaphore, -/
theorem recs_copy (K) (k : Ky) (c : Dev nD) : recs m ρ K ⊢ cellInv ER (Rd m ρ) (K (c, some k)) (dcell k c) := by
  unfold recs
  exact sep_elim_left.trans (bigSep_elim (Finset.mem_univ (c, some k)))
/-- and the levels. -/
theorem recs_lev (K) : recs m ρ K ⊢ levAts Lx lv := by
  unfold recs
  exact sep_elim_right

end Cert.KernelIdeal.Mlp

end
-- ==== Proof.KernelIdeal.Steps.lean ====
/-
The single steps of the body: a copy started, a semaphore waited for, a piece read or written, and a loop.
-/
module

public import proofs.«01_k».proof.Proof.KernelIdeal.Common

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Option Ky → ℕ) (c : Dev nD)

abbrev 𝒱₀ : Variants := Variants.none

/-- The rest `k` of device `c`'s body runs, and ends with `Q`. -/
abbrev WP (c : Dev nD) (k : Prg F) (Q : PUnit → sProp 𝕄) : sProp 𝕄 :=
  wp frame (wpE (defs₀ (F := F)) 𝒱₀ (c : Thread nD τ) none) Set.univ k Q

/-- Device `c` has taken `r` rounds of its copy semaphore `k`. -/
def posn (k : Ky) (c : Dev nD) (r : ℕ) : sProp 𝕄 := iprop(atPos ER (dcell k c) r ∅ 0 ∗ reached ER (dcell k c) r)

/-! ## Loops -/

/-- A loop whose every turn takes what it needs and gives what it makes, at the same time working off what is owed. -/
theorem wp_loop {Q : PUnit → sProp 𝕄} {α : Type} [DecidableEq α] (R : sProp 𝕄) [BI.Persistent R] (Pre Post : α → sProp 𝕄) (ob : α → List Ob) (v : ℕ)
    (rest : List Ob) (f : α → Prg F → Prg F) (hob : ∀ x, Above v (ob x)) (hrest : Above v rest)
    (step : ∀ x L k, Above v L →
      iprop(R ∗ Pre x ∗ owesL c (ob x ++ L) ∗ ((Post x ∗ owesL c L) -∗ WP c k Q)) ⊢ WP c (f x k) Q)
    (k : Prg F) : ∀ L : List α,
    iprop(R ∗ bigSepL L Pre ∗ owesL c (L.flatMap ob ++ rest) ∗ ((bigSepL L Post ∗ owesL c rest) -∗ WP c k Q)) ⊢ WP c (each L f k) Q
  | [] => by
    show iprop(R ∗ bigSepL [] Pre ∗ owesL c rest ∗ ((bigSepL [] Post ∗ owesL c rest) -∗ WP c k Q)) ⊢ WP c k Q
    iintro ⟨-, -, HO, Hk⟩
    iapply Hk
    isplitr
    · rw [bigSepL_nil]; iempintro
    · iexact HO
  | x :: L => by
    have ih := wp_loop R Pre Post ob v rest f hob hrest step k L
    have hl : (x :: L).flatMap ob ++ rest = ob x ++ (L.flatMap ob ++ rest) := by rw [List.flatMap_cons, List.append_assoc]
    have hc (Φ : α → sProp 𝕄) : bigSepL (x :: L) Φ = iprop(Φ x ∗ bigSepL L Φ) := bigSepL_cons _ _ _
    rw [hl, hc, hc]
    show _ ⊢ WP c (f x (each L f k)) Q
    iintro ⟨#HR, ⟨Hx, HL⟩, HO, Hk⟩
    iapply (step x (L.flatMap ob ++ rest) (each L f k) ((Above.flatMap hob).append hrest))
    isplitr; · iexact HR
    isplitl [Hx]; · iexact Hx
    isplitl [HO]; · iexact HO
    iintro ⟨Hp, HO⟩
    iapply ih
    isplitr; · iexact HR
    isplitl [HL]; · iexact HL
    isplitl [HO]; · iexact HO
    iintro ⟨HP, HO⟩
    iapply Hk
    isplitr [HO]
    · isplitl [Hp]; · iexact Hp
      iexact HP
    · iexact HO

/-- The same over a list of all the values of a type. -/
theorem wp_each {Q : PUnit → sProp 𝕄} {α : Type} [Fintype α] [DecidableEq α] (R : sProp 𝕄) [BI.Persistent R] (Pre Post : α → sProp 𝕄) (ob : α → List Ob)
    (v : ℕ) (rest : List Ob) (f : α → Prg F → Prg F) (L : List α) (hL : Finset.univ = L.toFinset) (hn : L.Nodup)
    (hob : ∀ x, Above v (ob x)) (hrest : Above v rest)
    (step : ∀ x L k, Above v L →
      iprop(R ∗ Pre x ∗ owesL c (ob x ++ L) ∗ ((Post x ∗ owesL c L) -∗ WP c k Q)) ⊢ WP c (f x k) Q)
    (k : Prg F) :
    iprop(R ∗ bigSep Finset.univ Pre ∗ owesL c (L.flatMap ob ++ rest) ∗ ((bigSep Finset.univ Post ∗ owesL c rest) -∗ WP c k Q))
      ⊢ WP c (each L f k) Q := by
  rw [bigSep_univ_eq_bigSepL L hL hn, bigSep_univ_eq_bigSepL L hL hn]
  exact wp_loop c R Pre Post ob v rest f hob hrest step k L

/-! ## Copies and waits -/

/-- Start a copy of sixty-four rows to device `p`. -/
theorem wp_copy_to {Q : PUnit → sProp 𝕄} (p : Dev nD) (src dst : Memref sig .tc .vmem S64x256 .bf16) (kS kR : Ky) (r : ℕ) (hS : r < cap kS) (hR : r < cap kR)
    (q : PosShare TreeShare) (V : Piece F) (Fr : sProp 𝕄) (o : Ob) (L : List Ob)
    {hsc : dst.view.ref.isScScratch = false} {hsrc : src.view.WordExact} {hdst : dst.view.WordExact}
    {hsem : DmaTarget.Typed .vmem (dsem kR) (.remote (Dev.tc p : Thread nD τ) dst (dsem kS) hsc)}
    (hN : dst.view.amount (dsem kR) = N) (ho : o.tally c = tallyAt (dcell kR p) r N)
    (hp1 : (owns (c : Thread nD τ) src q V : sProp 𝕄) ⊢ dpay m ρ kS c r)
    (hp2 : iprop(owns (p : Thread nD τ) dst fullShare V ∗ Fr) ⊢ dpay m ρ kR p r)
    (k : PUnit → Prg F) :
    iprop(recs m ρ K ∗ owns (c : Thread nD τ) src q V ∗ (∃ V' : Piece F, owns (p : Thread nD τ) dst fullShare V') ∗ Fr
        ∗ owesL c (o :: L)
        ∗ dutyTok ER (dcell kS c) r 0 ∗ reached ER (dcell kS c) r ∗ dutyTok ER (dcell kR p) r 0 ∗ reached ER (dcell kR p) r
        ∗ ((cred (tallyAt (dcell kS c) r N) ∗ owesL c L) -∗ WP c (k ⟨⟩) Q))
      ⊢ WP c (Prog.op (.enqueueDma src (.remote (Dev.tc p : Thread nD τ) dst (dsem kS) hsc) (dsem kR) hsrc hdst hsem) k) Q := by
  unfold owesL owns
  iintro ⟨#HR, ⟨%fs, %hfs, Hs⟩, ⟨%V', %fd, %hfd, Hd⟩, HF, ⟨%W, HO⟩, HtS, HrS, HtR, HrR, Hk⟩
  ihave HIs := (recs_copy m ρ K kS c) $$ HR
  ihave HIr := (recs_copy m ρ K kR p) $$ HR
  rw [owed_cons, ho]
  iapply (Rounds.wp_send_pointsTo_with 𝒱₀ ER (Rd m ρ) (c : Thread nD τ) none (κ₁ := K (c, some kS)) (κ₂ := K (p, some kR))
    (q := q) (r₁ := r) (r₂ := r) (d₁ := 0) (d₂ := 0) (fs := fs) (fd := fd) (F := Fr)
    (by rw [duties_copy m ρ c kS r hS]; exact Finset.mem_singleton_self _)
    (by rw [duties_copy m ρ p kR r hR]; exact Finset.mem_singleton_self _)
    r r N hN (amount_copy m ρ c kS r 0) (amount_copy m ρ p kR r 0) (owed c L) rfl (W := W)
    (by rw [payload_copy]; refine (owns_intro (c : Thread nD τ) src q fs).trans ?_; rw [hfs]; exact hp1)
    (by rw [payload_copy]; refine (sep_mono_left ?_).trans hp2
        refine (owns_intro (p : Thread nD τ) dst fullShare _).trans ?_
        rw [View.read_write_univ, hfs])) $$ [HIs HIr Hs Hd HF HO HtS HrS HtR HrR]
  · isplitl [HIs]; · iexact HIs
    isplitl [HIr]; · iexact HIr
    isplitl [Hs]; · iexact Hs
    isplitl [Hd HF]; · (isplitl [Hd]; · iexact Hd
                        iexact HF)
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

/-- Wait for a copy semaphore. -/
theorem wp_wait_for {Q : PUnit → sProp 𝕄} (k : Ky) (r : ℕ) (hr : r < cap k) (L : List Ob) (v : ℕ) (hv : lv (dcell k c) r < v) (hL : Above v L)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (dsem k) N X)
    (kt : PUnit → Prg F) :
    iprop(recs m ρ K ∗ cred (tallyAt (dcell k c) r N) ∗ owesL c L ∗ posn k c r
        ∗ ((owesL c L ∗ posn k c (r + 1) ∗ dpay m ρ k c r) -∗ WP c (kt ⟨⟩) Q))
      ⊢ WP c (Prog.op w kt) Q := by
  unfold owesL posn
  iintro ⟨#HR, Hc, ⟨%W, HO⟩, ⟨Hat, -⟩, Hk⟩
  ihave HI := (recs_copy m ρ K k c) $$ HR
  iapply (Rounds.wp_wait_rest_token 𝒱₀ ER (Rd m ρ) (c : Thread nD τ) none (κ := K (c, some k)) hw (Set.mem_univ _) r
    (O := owed c L) (W := W) (R := r) (m := 0) (T := ∅) (by rw [Nat.zero_add, expect_copy m ρ c k r hr])) $$ [HI Hc HO Hat]
  · isplitl [HI]; · iexact HI
    isplitl [Hc]; · iexact Hc
    isplitl [HO]; · iexact HO
    isplitr
    · iapply (mayWait c (dsem k) r L v (by obtain ⟨k, j, h⟩ := k; fin_cases k <;> (dsimp only [cap] at hr; omega)) hv hL)
      iapply (recs_lev m ρ K); iexact HR
    iexact Hat
  iintro ⟨HO, Hat, Hr, Hp⟩
  iapply Hk
  isplitl [HO]; · iexists _; iexact HO
  isplitl [Hat Hr]
  · isplitl [Hat]; · iexact Hat
    iexact Hr
  ihave Hp' := (Entails.of_eq (rest_copy m ρ c k r hr)) $$ Hp
  iexact Hp'

/-! ## Reading and writing -/

/-- Read a piece. -/
theorem wp_loadP {Q : PUnit → sProp 𝕄} (M : Memref sig .tc .vmem S1024x256 .bf16) (p : Dev nD) (h : Fin 4) (q : PosShare TreeShare) (V : Piece F)
    (k : Vec F S64x256 .bf16 → Prg F) :
    (ownP M c p h q V : sProp 𝕄) ⊢ iprop((ownP M c p h q V -∗ WP c (k V) Q) -∗ WP c (loadP M p h k) Q) := by
  unfold ownP owns
  iintro ⟨%f, %hf, H⟩ Hk
  iapply (wp_load_rect 𝒱₀ (c : Thread nD τ) none Set.univ (m := M) (r := rectP p h) (f := f) (Finset.Subset.refl _)) $$ H
  iintro H
  rw [show (M.access (rectP p h)).read (Elt F) f = V from hf]
  iapply Hk
  iexists f
  isplitr; · ipureintro; exact hf
  iexact H

/-- Write a piece. -/
theorem wp_storeP {Q : PUnit → sProp 𝕄} (M : Memref sig .tc .vmem S1024x256 .bf16) (hM : M.IsWhole) (p : Dev nD) (h : Fin 4) (V' : FVec F S64x256 .bf16) (k : Prg F) :
    (anyP M c p h : sProp 𝕄) ⊢ iprop((ownP M c p h fullShare V' -∗ WP c k Q) -∗ WP c (storeP M hM p h V' k) Q) := by
  unfold anyP ownP
  iintro ⟨%V, H⟩ Hk
  ihave H' := (show (owns (c : Thread nD τ) (rowsM M p h) fullShare V : sProp 𝕄) ⊢ _ from by unfold owns; exact .rfl) $$ H
  icases H' with ⟨%f, %hf, H⟩
  iapply (wp_store 𝒱₀ (c : Thread nD τ) none Set.univ (m := M) (r := rectP p h) (Mk := Finset.univ) (f := f) (w := V') (S := (rowsM M p h).view.set)
    (Finset.Subset.refl _)) $$ H
  iintro H
  iapply Hk
  ihave H2 := (owns_intro (c : Thread nD τ) (rowsM M p h) fullShare ((M.access (rectP p h)).write (Elt F) f V' Finset.univ)) $$ H
  iapply (Entails.of_eq (congrArg (fun x => (owns (c : Thread nD τ) (rowsM M p h) fullShare x : sProp 𝕄))
    (View.read_write_univ (v := M.access (rectP p h)) f V'))) $$ H2

/-- A slot read with its leading dimension is the piece with a leading dimension. -/
theorem slot_read (j : Fin 3) (h : Fin 4) (f : (rsM : Memref sig .tc .vmem S3x256x256 .bf16).view.ty.Contents (Elt F)) :
    (rsM.access (rectS j h)).read (Elt F) f = lift ((slotM j h).view.read (Elt F) f) := by
  funext i
  show (rsM.access (rectS j h)).read (Elt F) f i = (rsM.access (rectS j h)).read (Elt F) f
    (Shape.reshapeEquiv squeezes_S1x64x256_S64x256.numel_eq (Shape.reshapeEquiv squeezes_S1x64x256_S64x256.numel_eq.symm i))
  congr 1
  exact (S1x64x256.rowMajor.injective (Fin.ext (by rw [Shape.rowMajor_reshapeEquiv, Shape.rowMajor_reshapeEquiv]))).symm

/-- Read a slot. -/
theorem wp_loadS {Q : PUnit → sProp 𝕄} (j : Fin 3) (h : Fin 4) (V : Piece F) (k : Vec F S1x64x256 .bf16 → Prg F) :
    (ownS c j h V : sProp 𝕄) ⊢ iprop((ownS c j h V -∗ WP c (k (lift V)) Q) -∗ WP c (loadS j h k) Q) := by
  unfold ownS owns
  iintro ⟨%f, %hf, H⟩ Hk
  iapply (wp_load_rect 𝒱₀ (c : Thread nD τ) none Set.univ (m := rsM) (r := rectS j h) (f := f) (S := (slotM j h).view.set)
    (subset_of_eq (View.set_reshape (v := rsM.access (rectS j h)) squeezes_S1x64x256_S64x256.numel_eq).symm)) $$ H
  iintro H
  rw [slot_read, hf]
  iapply Hk
  iexists f
  isplitr; · ipureintro; exact hf
  iexact H

end Cert.KernelIdeal.Mlp

end
-- ==== Proof.KernelIdeal.Phases.lean ====
/-
The phases of the body: a piece sent to every peer, the arrivals of a layer, the device's own pieces, the drains.
-/
module

public import proofs.«01_k».proof.Proof.KernelIdeal.Steps

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Option Ky → ℕ) (c : Dev nD)

/-! ## Small facts -/

/-- The input of every layer is in the same buffer. -/
theorem buf_input (l : Fin 3) : buf l.castSucc = fullM := by fin_cases l <;> rfl

/-- A gathered piece counts `N`, -/
theorem credit_rows (r : Fin 4) (p : Dev nD) (h : Fin 4) : (rowsM (buf r) p h).view.dmaCredit = N := by fin_cases r <;> rfl

/-- a partial product too, -/
theorem credit_part (p : Dev nD) (h : Fin 4) : (rowsM paccM p h).view.dmaCredit = N := rfl
/-- as does a landing slot. -/
theorem credit_slot (j : Fin 3) (h : Fin 4) : (slotM j h).view.dmaCredit = N := rfl

/-- What a gather's copy gives back to its sender; -/
theorem dpay_ags (r : Fin 4) (c : Dev nD) (j : Fin 3) (h : Fin 4) : dpay m ρ (0, j, h) c r.val = agsPay m ρ r c j h := by
  dsimp only [dpay]; exact dif_pos r.isLt
/-- what it brings to its receiver; -/
theorem dpay_agr (r : Fin 4) (c : Dev nD) (j : Fin 3) (h : Fin 4) : dpay m ρ (1, j, h) c r.val = agrPay m ρ r c j h := by
  dsimp only [dpay]; exact dif_pos r.isLt
/-- what a reduction's copy gives back to its sender; -/
theorem dpay_rss (l : Fin 3) (c : Dev nD) (j : Fin 3) (h : Fin 4) : dpay m ρ (2, j, h) c l.val = rssPay m ρ l c j h := by
  dsimp only [dpay]; exact dif_pos l.isLt
/-- what it brings to its receiver. -/
theorem dpay_rsr (l : Fin 3) (c : Dev nD) (j : Fin 3) (h : Fin 4) : dpay m ρ (3, j, h) c l.val = rsrPay m ρ l c j h := by
  dsimp only [dpay]; exact dif_pos l.isLt

/-- The credit of one copy of round `r`. -/
def credit (k : Ky) (c : Dev nD) (r : ℕ) : sProp 𝕄 := cred (tallyAt (dcell k c) r N)

/-- The duties device `c` pays with its gathered piece; with its partial product. -/
def tokAG (r : Fin 4) (c : Dev nD) (j : Fin 3) (h : Fin 4) : sProp 𝕄 :=
  iprop(dutyTok ER (dcell (0, j, h) c) r.val 0 ∗ dutyTok ER (dcell (1, j, h) (peer j c)) r.val 0)
def tokRS (l : Fin 3) (c : Dev nD) (j : Fin 3) (h : Fin 4) : sProp 𝕄 :=
  iprop(dutyTok ER (dcell (2, j, h) c) l.val 0 ∗ dutyTok ER (dcell (3, j, h) (peer j c)) l.val 0)

/-- In the last layer the sums go to the result buffer: what is needed on top, and what is left over. -/
def spare (l : Fin 3) (c p : Dev nD) (h : Fin 4) : sProp 𝕄 :=
  match l with
  | 0 => iprop(emp)
  | 1 => iprop(emp)
  | 2 => anyP oM c p h
def left (l : Fin 3) (c p : Dev nD) (h : Fin 4) : sProp 𝕄 :=
  match l with
  | 0 => iprop(emp)
  | 1 => iprop(emp)
  | 2 => anyP fullM c p h
def leftS (l : Fin 3) (c : Dev nD) (j : Fin 3) (h : Fin 4) : sProp 𝕄 :=
  match l with
  | 0 => iprop(emp)
  | 1 => iprop(emp)
  | 2 => anyS c j h

/-- An input piece that has been used makes room for a piece of the next activation. -/
theorem regrant (l : Fin 3) (p : Dev nD) (h : Fin 4) (V : Piece F) :
    iprop(ownP fullM c p h fullShare V ∗ spare l c p h) ⊢ (iprop(anyP (buf l.succ) c p h ∗ left l c p h) : sProp 𝕄) := by
  have h1 : (ownP fullM c p h fullShare V : sProp 𝕄) ⊢ anyP fullM c p h := ownP_any _ _ _ _ _
  fin_cases l
  · exact sep_mono_left h1
  · exact sep_mono_left h1
  · exact (sep_mono_left h1).trans sep_comm.1

/-- A slot that has been read is offered again, while there is a next layer. -/
theorem reoffer (l : Fin 3) (j : Fin 3) (h : Fin 4) (V : Piece F) :
    iprop(posn (3, j, h) c (l.val + 1) ∗ ownS c j h V)
      ⊢ (iprop(posn (3, j, h) c (l.val + 1) ∗ offer l.succ c j h ∗ leftS l c j h) : sProp 𝕄) := by
  have h1 : (ownS c j h V : sProp 𝕄) ⊢ anyS c j h := ownS_any _ _ _ _
  refine (sep_mono_right h1).trans ?_
  unfold offer leftS posn
  fin_cases l
  · rw [if_pos (by decide)]
    iintro ⟨⟨Hp, #Hr⟩, H⟩
    isplitl [Hp]; · (isplitl [Hp]; · iexact Hp
                     iexact Hr)
    isplitl [H]; · (isplitl [H]; · iexact H
                    iexact Hr)
    iempintro
  · rw [if_pos (by decide)]
    iintro ⟨⟨Hp, #Hr⟩, H⟩
    isplitl [Hp]; · (isplitl [Hp]; · iexact Hp
                     iexact Hr)
    isplitl [H]; · (isplitl [H]; · iexact H
                    iexact Hr)
    iempintro
  · rw [if_neg (by decide)]
    iintro ⟨Hp, H⟩
    isplitl [Hp]; · iexact Hp
    isplitr; · iempintro
    iexact H

/-- A loop that works off nothing. -/
theorem wp_each_idle {Q : PUnit → sProp 𝕄} {α : Type} [Fintype α] [DecidableEq α] (R : sProp 𝕄) [BI.Persistent R] (Pre Post : α → sProp 𝕄)
    (v : ℕ) (rest : List Ob) (f : α → Prg F → Prg F) (L : List α) (hL : Finset.univ = L.toFinset) (hn : L.Nodup) (hrest : Above v rest)
    (step : ∀ x L k, Above v L →
      iprop(R ∗ Pre x ∗ owesL c L ∗ ((Post x ∗ owesL c L) -∗ WP c k Q)) ⊢ WP c (f x k) Q)
    (k : Prg F) :
    iprop(R ∗ bigSep Finset.univ Pre ∗ owesL c rest ∗ ((bigSep Finset.univ Post ∗ owesL c rest) -∗ WP c k Q))
      ⊢ WP c (each L f k) Q := by
  have h := wp_each c R Pre Post (fun _ => []) v rest f L hL hn (fun _ => Above.nil) hrest step k
  rwa [show L.flatMap (fun _ => ([] : List Ob)) ++ rest = rest from by simp] at h

/-! ## Single turns -/

/-- Send a piece to peer `j`. -/
theorem wp_sendAG {Q : PUnit → sProp 𝕄} (r : Fin 4) (j : Fin 3) (h : Fin 4) (L : List Ob) (k : Prg F) :
    iprop(recs m ρ K
        ∗ (posn (0, j, h) c r.val ∗ tokAG r c j h ∗ ownP (buf r) c c h (shr j) (act m ρ r c h) ∗ grant r c j h ∗ offer r c j h)
        ∗ owesL c ([Ob.ag r j h] ++ L)
        ∗ (((posn (0, j, h) c r.val ∗ credit (0, j, h) c r.val) ∗ owesL c L) -∗ WP c k Q))
      ⊢ WP c (sendAG r c j h k) Q := by
  unfold posn tokAG ownP grant anyP ownP credit
  iintro ⟨#HR, ⟨⟨Hat, #Hr⟩, ⟨Ht0, Ht1⟩, Hs, ⟨Hd, #Hrd⟩, Hof⟩, HO, Hk⟩
  iapply (wp_copy_to m ρ K c (peer j c) (rowsM (buf r) c h) (rowsM (buf r) c h) (0, j, h) (1, j, h) r.val r.isLt r.isLt (shr j)
    (act m ρ r c h) (offer r c j h) (Ob.ag r j h) L (credit_rows r c h) rfl
    (by rw [dpay_ags]; exact .rfl)
    (by rw [dpay_agr]; unfold agrPay ownP; rw [peer_peer]) (fun _ => k))
  isplitr; · iexact HR
  isplitl [Hs]; · iexact Hs
  isplitl [Hd]; · iexact Hd
  isplitl [Hof]; · iexact Hof
  isplitl [HO]; · iexact HO
  isplitl [Ht0]; · iexact Ht0
  isplitr; · iexact Hr
  isplitl [Ht1]; · iexact Ht1
  isplitr; · iexact Hrd
  iintro ⟨Hc, HO⟩
  iapply Hk
  isplitr [HO]
  · isplitl [Hat]
    · isplitl [Hat]; · iexact Hat
      iexact Hr
    · iexact Hc
  · iexact HO

/-- Send the partial product of a peer's piece back to it. -/
theorem wp_sendRS {Q : PUnit → sProp 𝕄} (l : Fin 3) (j : Fin 3) (h : Fin 4) (L : List Ob) (k : Prg F) :
    iprop(recs m ρ K
        ∗ (posn (2, j, h) c l.val ∗ tokRS l c j h ∗ ownP paccM c (peer j c) h fullShare (part m ρ l c (peer j c) h)
          ∗ anyS (peer j c) j h ∗ reached ER (dcell (3, j, h) (peer j c)) l.val
          ∗ anyP (buf l.succ) c (peer j c) h ∗ reached ER (dcell (1, j, h) c) (l.val + 1))
        ∗ owesL c ([Ob.rs l j h] ++ L)
        ∗ (((posn (2, j, h) c l.val ∗ credit (2, j, h) c l.val) ∗ owesL c L) -∗ WP c k Q))
      ⊢ WP c (sendRS c j h k) Q := by
  unfold posn tokRS ownP anyS ownS credit
  iintro ⟨#HR, ⟨⟨Hat, #Hr⟩, ⟨Ht0, Ht1⟩, Hs, Hd, #Hrd, Hg, #Hrg⟩, HO, Hk⟩
  iapply (wp_copy_to m ρ K c (peer j c) (rowsM paccM (peer j c) h) (slotM j h) (2, j, h) (3, j, h) l.val l.isLt l.isLt fullShare
    (part m ρ l c (peer j c) h) (grant l.succ (peer j c) j h) (Ob.rs l j h) L rfl rfl
    (by rw [dpay_rss]; exact .rfl)
    (by rw [dpay_rsr]; unfold rsrPay ownS; rw [peer_peer]) (fun _ => k))
  isplitr; · iexact HR
  isplitl [Hs]; · iexact Hs
  isplitl [Hd]; · iexact Hd
  isplitl [Hg]
  · unfold grant
    rw [peer_peer]
    isplitl [Hg]; · iexact Hg
    iexact Hrg
  isplitl [HO]; · iexact HO
  isplitl [Ht0]; · iexact Ht0
  isplitr; · iexact Hr
  isplitl [Ht1]; · iexact Ht1
  isplitr; · iexact Hrd
  iintro ⟨Hc, HO⟩
  iapply Hk
  isplitr [HO]
  · isplitl [Hat]
    · isplitl [Hat]; · iexact Hat
      iexact Hr
    · iexact Hc
  · iexact HO

/-- Wait until an own piece has been read out by the copy to peer `j`. -/
theorem wp_waitAGS {Q : PUnit → sProp 𝕄} (r : Fin 4) (j : Fin 3) (h : Fin 4) (L : List Ob) (k : Prg F) (hL : Above 1 L) :
    iprop(recs m ρ K ∗ (credit (0, j, h) c r.val ∗ posn (0, j, h) c r.val) ∗ owesL c L
        ∗ (((posn (0, j, h) c (r.val + 1) ∗ agsPay m ρ r c j h) ∗ owesL c L) -∗ WP c k Q))
      ⊢ WP c (waitAGS r c j h k) Q := by
  unfold credit
  iintro ⟨#HR, ⟨Hc, Hp⟩, HO, Hk⟩
  iapply (wp_wait_for m ρ K c (0, j, h) r.val r.isLt L 1 (by rw [lv_copy]; exact Nat.one_pos) hL
    (fun X => (wpE_waitDma2_eq 𝒱₀ (c : Thread nD τ) none Set.univ X).trans (by rw [credit_rows])) (fun _ => k))
  isplitr; · iexact HR
  isplitl [Hc]; · iexact Hc
  isplitl [HO]; · iexact HO
  isplitl [Hp]; · iexact Hp
  rw [dpay_ags]
  iintro ⟨HO, Hp, Hpay⟩
  iapply Hk
  isplitr [HO]
  · isplitl [Hp]; · iexact Hp
    iexact Hpay
  · iexact HO

/-- Wait until peer `j`'s piece has arrived. -/
theorem wp_waitAGR {Q : PUnit → sProp 𝕄} (r : Fin 4) (j : Fin 3) (h : Fin 4) (L : List Ob) (k : Prg F) (hL : Above (3 + 2 * r.val) L) :
    iprop(recs m ρ K ∗ (credit (1, j, h) c r.val ∗ posn (1, j, h) c r.val) ∗ owesL c L
        ∗ (((posn (1, j, h) c (r.val + 1) ∗ agrPay m ρ r c j h) ∗ owesL c L) -∗ WP c k Q))
      ⊢ WP c (waitAGR r c j h k) Q := by
  unfold credit
  iintro ⟨#HR, ⟨Hc, Hp⟩, HO, Hk⟩
  iapply (wp_wait_for m ρ K c (1, j, h) r.val r.isLt L (3 + 2 * r.val) (by rw [lv_copy]; show 2 + 2 * r.val < _; omega) hL
    (fun X => (wpE_waitDma2_eq 𝒱₀ (c : Thread nD τ) none Set.univ X).trans (by rw [credit_rows])) (fun _ => k))
  isplitr; · iexact HR
  isplitl [Hc]; · iexact Hc
  isplitl [HO]; · iexact HO
  isplitl [Hp]; · iexact Hp
  rw [dpay_agr]
  iintro ⟨HO, Hp, Hpay⟩
  iapply Hk
  isplitr [HO]
  · isplitl [Hp]; · iexact Hp
    iexact Hpay
  · iexact HO

/-- Wait until a partial product has been read out. -/
theorem wp_waitRSS {Q : PUnit → sProp 𝕄} (l : Fin 3) (j : Fin 3) (h : Fin 4) (L : List Ob) (k : Prg F) (hL : Above 1 L) :
    iprop(recs m ρ K ∗ (credit (2, j, h) c l.val ∗ posn (2, j, h) c l.val) ∗ owesL c L
        ∗ (((posn (2, j, h) c (l.val + 1) ∗ rssPay m ρ l c j h) ∗ owesL c L) -∗ WP c k Q))
      ⊢ WP c (waitRSS c j h k) Q := by
  unfold credit
  iintro ⟨#HR, ⟨Hc, Hp⟩, HO, Hk⟩
  iapply (wp_wait_for m ρ K c (2, j, h) l.val l.isLt L 1 (by rw [lv_copy]; exact Nat.one_pos) hL
    (fun X => (wpE_waitDma2_eq 𝒱₀ (c : Thread nD τ) none Set.univ X).trans (by rw [credit_part])) (fun _ => k))
  isplitr; · iexact HR
  isplitl [Hc]; · iexact Hc
  isplitl [HO]; · iexact HO
  isplitl [Hp]; · iexact Hp
  rw [dpay_rss]
  iintro ⟨HO, Hp, Hpay⟩
  iapply Hk
  isplitr [HO]
  · isplitl [Hp]; · iexact Hp
    iexact Hpay
  · iexact HO

/-- Wait until peer `j`'s partial product has arrived. -/
theorem wp_waitRSR {Q : PUnit → sProp 𝕄} (l : Fin 3) (j : Fin 3) (h : Fin 4) (L : List Ob) (k : Prg F) (hL : Above (4 + 2 * l.val) L) :
    iprop(recs m ρ K ∗ (credit (3, j, h) c l.val ∗ posn (3, j, h) c l.val) ∗ owesL c L
        ∗ (((posn (3, j, h) c (l.val + 1) ∗ rsrPay m ρ l c j h) ∗ owesL c L) -∗ WP c k Q))
      ⊢ WP c (waitRSR c j h k) Q := by
  unfold credit
  iintro ⟨#HR, ⟨Hc, Hp⟩, HO, Hk⟩
  iapply (wp_wait_for m ρ K c (3, j, h) l.val l.isLt L (4 + 2 * l.val) (by rw [lv_copy]; show 3 + 2 * l.val < _; omega) hL
    (fun X => (wpE_waitDma2_eq 𝒱₀ (c : Thread nD τ) none Set.univ X).trans (by rw [credit_slot])) (fun _ => k))
  isplitr; · iexact HR
  isplitl [Hc]; · iexact Hc
  isplitl [HO]; · iexact HO
  isplitl [Hp]; · iexact Hp
  rw [dpay_rsr]
  iintro ⟨HO, Hp, Hpay⟩
  iapply Hk
  isplitr [HO]
  · isplitl [Hp]; · iexact Hp
    iexact Hpay
  · iexact HO

/-- Compute the partial product of a piece. -/
theorem wp_mlpP {Q : PUnit → sProp 𝕄} (w1 : FVec F S256x512 .bf16) (w2 : FVec F S512x256 .bf16) (p : Dev nD) (h : Fin 4)
    (q : PosShare TreeShare) (V : Piece F) (k : Prg F) :
    iprop(ownP fullM c p h q V ∗ anyP paccM c p h
        ∗ ((ownP fullM c p h q V ∗ ownP paccM c p h fullShare (mlp w1 w2 V)) -∗ WP c k Q))
      ⊢ WP c (mlpP w1 w2 p h k) Q := by
  iintro ⟨Hx, Hp, Hk⟩
  iapply (wp_loadP c fullM p h q V _) $$ Hx
  iintro Hx
  ihave Hp' := (show (anyP paccM c p h : sProp 𝕄) ⊢ iprop(∃ V' : Piece F, ownP paccM c p h fullShare V') from .rfl) $$ Hp
  icases Hp' with ⟨%V', Hp⟩
  iapply (wp_loadP c paccM p h fullShare V' _) $$ Hp
  iintro Hp
  ihave Hp := (ownP_any paccM c p h V') $$ Hp
  iapply (wp_storeP c paccM (Memref.isWhole_whole _) p h (mlp w1 w2 V) k) $$ Hp
  iintro Hp
  iapply Hk
  isplitl [Hx]; · iexact Hx
  iexact Hp

/-- One arrival: peer `j`'s piece comes, its partial product goes back, and with it the room the piece took. -/
theorem wp_arrival {Q : PUnit → sProp 𝕄} (l : Fin 3) (j : Fin 3) (h : Fin 4) (L : List Ob) (k : Prg F) (hL : Above (3 + 2 * l.val) L) :
    iprop(recs m ρ K
        ∗ (credit (1, j, h) c l.val ∗ posn (1, j, h) c l.val ∗ tokRS l c j h ∗ anyP paccM c (peer j c) h ∗ posn (2, j, h) c l.val
          ∗ spare l c (peer j c) h)
        ∗ owesL c ([Ob.rs l j h] ++ L)
        ∗ (((posn (1, j, h) c (l.val + 1) ∗ posn (2, j, h) c l.val ∗ credit (2, j, h) c l.val ∗ left l c (peer j c) h) ∗ owesL c L) -∗ WP c k Q))
      ⊢ WP c (waitAGR l.castSucc c j h (mlpP (W1 m ρ l c) (W2 m ρ l c) (peer j c) h (sendRS c j h k))) Q := by
  iintro ⟨#HR, ⟨Hc, Hp1, Ht, Hpa, Hp2, Hsp⟩, HO, Hk⟩
  iapply (wp_waitAGR m ρ K c l.castSucc j h ([Ob.rs l j h] ++ L) _ (Above.cons le_rfl hL))
  isplitr; · iexact HR
  isplitl [Hc Hp1]
  · isplitl [Hc]; · iexact Hc
    iexact Hp1
  isplitl [HO]; · iexact HO
  iintro ⟨⟨Hp1, Hpay⟩, HO⟩
  ihave Hpay' := (show (agrPay m ρ l.castSucc c j h : sProp 𝕄)
      ⊢ iprop(ownP fullM c (peer j c) h fullShare (act m ρ l.castSucc (peer j c) h)
          ∗ anyS (peer j c) j h ∗ reached ER (dcell (3, j, h) (peer j c)) l.val) from by
    unfold agrPay offer; rw [buf_input, if_pos (show l.castSucc.val < 3 from l.isLt)]; exact .rfl) $$ Hpay
  icases Hpay' with ⟨Hx, Hsl, #Hrs⟩
  iapply (wp_mlpP c (W1 m ρ l c) (W2 m ρ l c) (peer j c) h fullShare (act m ρ l.castSucc (peer j c) h) _)
  isplitl [Hx]; · iexact Hx
  isplitl [Hpa]; · iexact Hpa
  iintro ⟨Hx, Hpa⟩
  ihave Hroom := (regrant c l (peer j c) h (act m ρ l.castSucc (peer j c) h)) $$ [Hx Hsp]
  · isplitl [Hx]; · iexact Hx
    iexact Hsp
  icases Hroom with ⟨Hg, Hleft⟩
  ihave Hp1' := (show (posn (1, j, h) c (l.castSucc.val + 1) : sProp 𝕄)
    ⊢ iprop(atPos ER (dcell (1, j, h) c) (l.val + 1) ∅ 0 ∗ reached ER (dcell (1, j, h) c) (l.val + 1)) from .rfl) $$ Hp1
  icases Hp1' with ⟨Hat, #Hra⟩
  iapply (wp_sendRS m ρ K c l j h L k)
  isplitr; · iexact HR
  isplitl [Hp2 Ht Hpa Hsl Hg]
  · isplitl [Hp2]; · iexact Hp2
    isplitl [Ht]; · iexact Ht
    isplitl [Hpa]; · iexact Hpa
    isplitl [Hsl]; · iexact Hsl
    isplitr; · iexact Hrs
    isplitl [Hg]; · iexact Hg
    iexact Hra
  isplitl [HO]; · iexact HO
  iintro ⟨⟨Hp2, Hc2⟩, HO⟩
  iapply Hk
  isplitr [HO]
  · isplitl [Hat]
    · unfold posn; isplitl [Hat]; · iexact Hat
      iexact Hra
    isplitl [Hp2]; · iexact Hp2
    isplitl [Hc2]; · iexact Hc2
    iexact Hleft
  · iexact HO

end Cert.KernelIdeal.Mlp

end
-- ==== Proof.KernelIdeal.Layers.lean ====
/-
The layers: every phase over all pieces and peers, and a layer as the phases in order.
-/
module

public import proofs.«01_k».proof.Proof.KernelIdeal.Phases

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Option Ky → ℕ) (c : Dev nD)

/-- Something for every piece; for every piece and peer. -/
def all1 (Φ : Fin 4 → sProp 𝕄) : sProp 𝕄 := bigSep Finset.univ Φ
def all2 (Φ : Fin 3 → Fin 4 → sProp 𝕄) : sProp 𝕄 := bigSep Finset.univ fun h => bigSep Finset.univ fun j => Φ j h

/-- A conjunction over pieces of pairs is a pair of conjunctions; -/
theorem all1_sep (Φ Ψ : Fin 4 → sProp 𝕄) : all1 (fun h => iprop(Φ h ∗ Ψ h)) = iprop(all1 Φ ∗ all1 Ψ) := bigSep_sep' _ _ _
/-- over peers and pieces too. -/
theorem all2_sep (Φ Ψ : Fin 3 → Fin 4 → sProp 𝕄) : all2 (fun j h => iprop(Φ j h ∗ Ψ j h)) = iprop(all2 Φ ∗ all2 Ψ) := by
  unfold all2
  rw [← bigSep_sep']
  exact bigSep_congr fun h _ => bigSep_sep' _ _ _
/-- Peers and pieces may be taken in either order. -/
theorem all2_swap (Φ : Fin 3 → Fin 4 → sProp 𝕄) : all2 Φ = bigSep Finset.univ fun j => bigSep Finset.univ fun h => Φ j h := by
  unfold all2
  rw [← bigSep_univ_prod (fun x : Fin 4 × Fin 3 => Φ x.2 x.1), ← bigSep_univ_prod (fun x : Fin 3 × Fin 4 => Φ x.1 x.2),
    bigSep_univ_equiv (Equiv.prodComm (Fin 3) (Fin 4))]
  rfl
/-- A conjunction over pieces is weakened item by item; -/
theorem all1_mono {Φ Ψ : Fin 4 → sProp 𝕄} (h : ∀ x, Φ x ⊢ Ψ x) : all1 Φ ⊢ all1 Ψ := bigSep_mono fun x _ => h x
/-- over peers and pieces too. -/
theorem all2_mono {Φ Ψ : Fin 3 → Fin 4 → sProp 𝕄} (h : ∀ j x, Φ j x ⊢ Ψ j x) : all2 Φ ⊢ all2 Ψ :=
  bigSep_mono fun x _ => bigSep_mono fun j _ => h j x

/-- A conjunction over three peers, written out. -/
theorem three (Φ : Fin 3 → sProp 𝕄) : bigSep Finset.univ Φ = iprop(Φ 0 ∗ Φ 1 ∗ Φ 2) :=
  bigSep_univ_eq_bigSepL [0, 1, 2] (by decide) (by decide) Φ

/-! ## Every piece sent -/

/-- Send a piece to all peers. -/
theorem wp_sendPiece {Q : PUnit → sProp 𝕄} (r : Fin 4) (h : Fin 4) (L : List Ob) (k : Prg F) (hL : Above (2 + 2 * r.val) L) :
    iprop(recs m ρ K
        ∗ (ownP (buf r) c c h fullShare (act m ρ r c h)
          ∗ bigSep Finset.univ fun j => iprop(posn (0, j, h) c r.val ∗ tokAG r c j h ∗ grant r c j h ∗ offer r c j h))
        ∗ owesL c (agOb r h ++ L)
        ∗ (((bigSep Finset.univ fun j => iprop(posn (0, j, h) c r.val ∗ credit (0, j, h) c r.val)) ∗ owesL c L) -∗ WP c k Q))
      ⊢ WP c (sendPiece r c h k) Q := by
  iintro ⟨#HR, ⟨Hx, H⟩, HO, Hk⟩
  ihave Hx' := (ownP_shares (buf r) c c h (act m ρ r c h)).1 $$ Hx
  iapply (wp_each c (recs m ρ K)
    (fun j => iprop(posn (0, j, h) c r.val ∗ tokAG r c j h ∗ ownP (buf r) c c h (shr j) (act m ρ r c h) ∗ grant r c j h ∗ offer r c j h))
    (fun j => iprop(posn (0, j, h) c r.val ∗ credit (0, j, h) c r.val)) (fun j => [Ob.ag r j h]) (2 + 2 * r.val) L _ js (by decide) (by decide)
    (fun j => Above.cons le_rfl Above.nil) hL (fun j L' k' _ => wp_sendAG m ρ K c r j h L' k') k)
  isplitr; · iexact HR
  isplitl [Hx' H]
  · simp only [bigSep_sep']
    icases H with ⟨H1, H2, H3, H4⟩
    isplitl [H1]; · iexact H1
    isplitl [H2]; · iexact H2
    isplitl [Hx']; · iexact Hx'
    isplitl [H3]; · iexact H3
    iexact H4
  isplitl [HO]; · iexact HO
  iexact Hk

/-- Send the whole chunk of the first activation. -/
theorem wp_sendAll {Q : PUnit → sProp 𝕄} (r : Fin 4) (L : List Ob) (k : Prg F) (hL : Above (2 + 2 * r.val) L) :
    iprop(recs m ρ K
        ∗ (all1 (fun h => ownP (buf r) c c h fullShare (act m ρ r c h))
          ∗ all2 (fun j h => posn (0, j, h) c r.val) ∗ all2 (fun j h => tokAG r c j h) ∗ all2 (fun j h => grant r c j h) ∗ all2 (fun j h => offer r c j h))
        ∗ owesL c (agL r ++ L)
        ∗ (((all2 (fun j h => posn (0, j, h) c r.val) ∗ all2 (fun j h => credit (0, j, h) c r.val)) ∗ owesL c L) -∗ WP c k Q))
      ⊢ WP c (each hs (fun h => sendPiece r c h) k) Q := by
  have e := wp_each c (recs m ρ K) (Q := Q)
    (fun h => iprop(ownP (buf r) c c h fullShare (act m ρ r c h)
          ∗ bigSep Finset.univ fun j => iprop(posn (0, j, h) c r.val ∗ tokAG r c j h ∗ grant r c j h ∗ offer r c j h)))
    (fun h => bigSep Finset.univ fun j => iprop(posn (0, j, h) c r.val ∗ credit (0, j, h) c r.val)) (agOb r) (2 + 2 * r.val) L _ hs (by decide) (by decide)
    (agOb_above r) hL (fun h L' k' hL' => wp_sendPiece m ρ K c r h L' k' hL') k
  simp only [bigSep_sep'] at e
  exact e

/-! ## The arrivals of a layer -/

/-- The arrivals of a layer: each gathered piece is waited for, multiplied and sent back. -/
theorem wp_arrivals {Q : PUnit → sProp 𝕄} (l : Fin 3) (L : List Ob) (k : Prg F) (hL : Above (3 + 2 * l.val) L) :
    iprop(recs m ρ K
        ∗ (all2 (fun j h => credit (1, j, h) c l.val) ∗ all2 (fun j h => posn (1, j, h) c l.val) ∗ all2 (fun j h => tokRS l c j h)
          ∗ all2 (fun j h => anyP paccM c (peer j c) h) ∗ all2 (fun j h => posn (2, j, h) c l.val) ∗ all2 (fun j h => spare l c (peer j c) h))
        ∗ owesL c (rsL l ++ L)
        ∗ (((all2 (fun j h => posn (1, j, h) c (l.val + 1)) ∗ all2 (fun j h => posn (2, j, h) c l.val)
            ∗ all2 (fun j h => credit (2, j, h) c l.val) ∗ all2 (fun j h => left l c (peer j c) h)) ∗ owesL c L) -∗ WP c k Q))
      ⊢ WP c (arrivals l c (W1 m ρ l c) (W2 m ρ l c) k) Q := by
  have e := wp_each c (recs m ρ K) (Q := Q)
    (fun h => bigSep Finset.univ fun j => iprop(credit (1, j, h) c l.val ∗ posn (1, j, h) c l.val ∗ tokRS l c j h
      ∗ anyP paccM c (peer j c) h ∗ posn (2, j, h) c l.val ∗ spare l c (peer j c) h))
    (fun h => bigSep Finset.univ fun j => iprop(posn (1, j, h) c (l.val + 1) ∗ posn (2, j, h) c l.val
      ∗ credit (2, j, h) c l.val ∗ left l c (peer j c) h)) (rsOb l) (3 + 2 * l.val) L
    (fun h k => each ws (fun j k => waitAGR l.castSucc c j h (mlpP (W1 m ρ l c) (W2 m ρ l c) (peer j c) h (sendRS c j h k))) k)
    hs (by decide) (by decide) (rsOb_above l) hL
    (fun h L' k' hL' => wp_each c (recs m ρ K) _ _ (fun j => [Ob.rs l j h]) (3 + 2 * l.val) L' _ ws (by decide) (by decide)
      (fun j => Above.cons le_rfl Above.nil) hL' (fun j L'' k'' hL'' => wp_arrival m ρ K c l j h L'' k'' hL'') k') k
  simp only [bigSep_sep'] at e
  exact e

/-! ## The drains -/

/-- The gather's copies, waited for at the sender; -/
theorem wp_drainAG {Q : PUnit → sProp 𝕄} (r : Fin 4) (L : List Ob) (k : Prg F) (hL : Above 1 L) :
    iprop(recs m ρ K ∗ (all2 (fun j h => credit (0, j, h) c r.val) ∗ all2 (fun j h => posn (0, j, h) c r.val)) ∗ owesL c L
        ∗ (((all2 (fun j h => posn (0, j, h) c (r.val + 1)) ∗ all1 (fun h => ownP (buf r) c c h fullShare (act m ρ r c h))) ∗ owesL c L)
            -∗ WP c k Q))
      ⊢ WP c (drainAG r c k) Q := by
  have e := wp_each_idle c (recs m ρ K) (Q := Q)
    (fun h => bigSep Finset.univ fun j => iprop(credit (0, j, h) c r.val ∗ posn (0, j, h) c r.val))
    (fun h => bigSep Finset.univ fun j => iprop(posn (0, j, h) c (r.val + 1) ∗ agsPay m ρ r c j h)) 1 L
    (fun h k => each js (fun j k => waitAGS r c j h k) k) hs (by decide) (by decide) hL
    (fun h L' k' hL' => wp_each_idle c (recs m ρ K) _ _ 1 L' _ js (by decide) (by decide) hL'
      (fun j L'' k'' hL'' => wp_waitAGS m ρ K c r j h L'' k'' hL'') k') k
  simp only [bigSep_sep'] at e
  refine BIBase.Entails.trans ?_ e
  refine sep_mono_right (sep_mono_right (sep_mono_right (wand_mono_left (sep_mono_left (sep_mono_right ?_)))))
  exact bigSep_mono fun h _ => (ownP_shares (buf r) c c h (act m ρ r c h)).2

/-- the reduction's copies, waited for at the sender. -/
theorem wp_drainRS {Q : PUnit → sProp 𝕄} (l : Fin 3) (L : List Ob) (k : Prg F) (hL : Above 1 L) :
    iprop(recs m ρ K ∗ (all2 (fun j h => credit (2, j, h) c l.val) ∗ all2 (fun j h => posn (2, j, h) c l.val)) ∗ owesL c L
        ∗ (((all2 (fun j h => posn (2, j, h) c (l.val + 1)) ∗ all2 (fun j h => anyP paccM c (peer j c) h)) ∗ owesL c L)
            -∗ WP c k Q))
      ⊢ WP c (drainRS c k) Q := by
  have e := wp_each_idle c (recs m ρ K) (Q := Q)
    (fun j => bigSep Finset.univ fun h => iprop(credit (2, j, h) c l.val ∗ posn (2, j, h) c l.val))
    (fun j => bigSep Finset.univ fun h => iprop(posn (2, j, h) c (l.val + 1) ∗ rssPay m ρ l c j h)) 1 L
    (fun j k => each hs (fun h k => waitRSS c j h k) k) js (by decide) (by decide) hL
    (fun j L' k' hL' => wp_each_idle c (recs m ρ K) _ _ 1 L' _ hs (by decide) (by decide) hL'
      (fun h L'' k'' hL'' => wp_waitRSS m ρ K c l j h L'' k'' hL'') k') k
  simp only [bigSep_sep', ← all2_swap] at e
  refine BIBase.Entails.trans ?_ e
  refine sep_mono_right (sep_mono_right (sep_mono_right (wand_mono_left (sep_mono_left (sep_mono_right ?_)))))
  exact all2_mono fun j h => ownP_any _ _ _ _ _

/-- Wait for the last activation's pieces. -/
theorem wp_lastArrivals {Q : PUnit → sProp 𝕄} (k : Prg F) :
    iprop(recs m ρ K ∗ (all2 (fun j h => credit (1, j, h) c 3) ∗ all2 (fun j h => posn (1, j, h) c 3)) ∗ owesL c []
        ∗ (((all2 (fun j h => posn (1, j, h) c 4) ∗ all2 (fun j h => ownP oM c (peer j c) h fullShare (act m ρ 3 (peer j c) h))) ∗ owesL c [])
            -∗ WP c k Q))
      ⊢ WP c (each hs (fun h k => each js (fun j k => waitAGR 3 c j h k) k) k) Q := by
  have e := wp_each_idle c (recs m ρ K) (Q := Q)
    (fun h => bigSep Finset.univ fun j => iprop(credit (1, j, h) c 3 ∗ posn (1, j, h) c 3))
    (fun h => bigSep Finset.univ fun j => iprop(posn (1, j, h) c 4 ∗ agrPay m ρ 3 c j h)) 9 []
    (fun h k => each js (fun j k => waitAGR 3 c j h k) k) hs (by decide) (by decide) Above.nil
    (fun h L' k' hL' => wp_each_idle c (recs m ρ K) _ _ 9 L' _ js (by decide) (by decide) hL'
      (fun j L'' k'' hL'' => wp_waitAGR m ρ K c 3 j h L'' k'' hL'') k') k
  simp only [bigSep_sep'] at e
  refine BIBase.Entails.trans ?_ e
  refine sep_mono_right (sep_mono_right (sep_mono_right (wand_mono_left (sep_mono_left (sep_mono_right ?_)))))
  refine all2_mono fun j h => ?_
  unfold agrPay offer
  rw [if_neg (by decide)]
  exact sep_elim_left

/-! ## The device's own pieces -/

/-- The peers' partial products of an own piece come in and are added up with the device's own. -/
theorem wp_sumP {Q : PUnit → sProp 𝕄} (l : Fin 3) (h : Fin 4) (k : Prg F) :
    iprop(ownP paccM c c h fullShare (part m ρ l c c h) ∗ (bigSep Finset.univ fun j => ownS c j h (part m ρ l (peer j c) c h))
        ∗ anyP (buf l.succ) c c h
        ∗ ((ownP paccM c c h fullShare (part m ρ l c c h) ∗ (bigSep Finset.univ fun j => ownS c j h (part m ρ l (peer j c) c h))
            ∗ ownP (buf l.succ) c c h fullShare (act m ρ l.succ c h)) -∗ WP c k Q))
      ⊢ WP c (sumP l c h k) Q := by
  rw [three]
  iintro ⟨Hp, ⟨H0, H1, H2⟩, Ho, Hk⟩
  iapply (wp_loadP c paccM c h fullShare _ _) $$ Hp
  iintro Hp
  iapply (wp_loadS c 0 h _ _) $$ H0
  iintro H0
  iapply (wp_loadS c 1 h _ _) $$ H1
  iintro H1
  iapply (wp_loadS c 2 h _ _) $$ H2
  iintro H2
  ihave Ho' := (show (anyP (buf l.succ) c c h : sProp 𝕄) ⊢ iprop(∃ V' : Piece F, ownP (buf l.succ) c c h fullShare V') from .rfl) $$ Ho
  icases Ho' with ⟨%V', Ho⟩
  iapply (wp_loadP c (buf l.succ) c h fullShare V' _) $$ Ho
  iintro Ho
  ihave Ho := (ownP_any (buf l.succ) c c h V') $$ Ho
  iapply (wp_storeP c (buf l.succ) (buf_whole _) c h _ k) $$ Ho
  iintro Ho
  iapply Hk
  isplitl [Hp]; · iexact Hp
  isplitl [H0 H1 H2]
  · isplitl [H0]; · iexact H0
    isplitl [H1]; · iexact H1
    iexact H2
  rw [act_succ]
  iexact Ho

/-- An own piece: computed, summed over the devices, sent on. -/
theorem wp_own {Q : PUnit → sProp 𝕄} (l : Fin 3) (h : Fin 4) (L : List Ob) (k : Prg F) (hL : Above (4 + 2 * l.val) L) :
    iprop(recs m ρ K
        ∗ (ownP fullM c c h fullShare (act m ρ l.castSucc c h) ∗ anyP paccM c c h ∗ spare l c c h
          ∗ bigSep Finset.univ fun j => iprop(credit (3, j, h) c l.val ∗ posn (3, j, h) c l.val ∗ posn (0, j, h) c (l.val + 1) ∗ tokAG l.succ c j h))
        ∗ owesL c (agOb l.succ h ++ L)
        ∗ (((anyP paccM c c h ∗ left l c c h
            ∗ bigSep Finset.univ fun j => iprop(posn (3, j, h) c (l.val + 1) ∗ leftS l c j h ∗ posn (0, j, h) c (l.val + 1) ∗ credit (0, j, h) c (l.val + 1)))
            ∗ owesL c L) -∗ WP c k Q))
      ⊢ WP c (mlpP (W1 m ρ l c) (W2 m ρ l c) c h (each js (fun j k => waitRSR c j h k) (sumP l c h (sendPiece l.succ c h k)))) Q := by
  have hA : Above (4 + 2 * l.val) (agOb l.succ h) := (agOb_above l.succ h).mono (by rw [Fin.val_succ]; omega)
  iintro ⟨#HR, ⟨Hx, Hpa, Hsp, Hj⟩, HO, Hk⟩
  iapply (wp_mlpP c (W1 m ρ l c) (W2 m ρ l c) c h fullShare (act m ρ l.castSucc c h) _)
  isplitl [Hx]; · iexact Hx
  isplitl [Hpa]; · iexact Hpa
  iintro ⟨Hx, Hpa⟩
  ihave Hj' := (show (bigSep Finset.univ fun j => (iprop(credit (3, j, h) c l.val ∗ posn (3, j, h) c l.val ∗ posn (0, j, h) c (l.val + 1) ∗ tokAG l.succ c j h) : sProp 𝕄))
    ⊢ iprop((bigSep Finset.univ fun j => iprop(credit (3, j, h) c l.val ∗ posn (3, j, h) c l.val))
        ∗ (bigSep Finset.univ fun j => posn (0, j, h) c (l.val + 1)) ∗ (bigSep Finset.univ fun j => tokAG l.succ c j h)) from by
    simp only [bigSep_sep']
    iintro ⟨H1, H2, H3, H4⟩
    isplitl [H1 H2]
    · isplitl [H1]; · iexact H1
      iexact H2
    isplitl [H3]; · iexact H3
    iexact H4) $$ Hj
  icases Hj' with ⟨Hw, Hps, Htk⟩
  iapply (wp_each_idle c (recs m ρ K) _
    (fun j => iprop(posn (3, j, h) c (l.val + 1) ∗ rsrPay m ρ l c j h)) (4 + 2 * l.val) (agOb l.succ h ++ L) _ js (by decide) (by decide)
    (hA.append hL) (fun j L' k' hL' => wp_waitRSR m ρ K c l j h L' k' hL') _)
  isplitr; · iexact HR
  isplitl [Hw]; · iexact Hw
  isplitl [HO]; · iexact HO
  iintro ⟨Hw, HO⟩
  ihave Hw' := (show (bigSep Finset.univ fun j => (iprop(posn (3, j, h) c (l.val + 1) ∗ rsrPay m ρ l c j h) : sProp 𝕄))
    ⊢ iprop((bigSep Finset.univ fun j => posn (3, j, h) c (l.val + 1)) ∗ (bigSep Finset.univ fun j => ownS c j h (part m ρ l (peer j c) c h))
        ∗ (bigSep Finset.univ fun j => grant l.succ c j h)) from by
    unfold rsrPay; simp only [bigSep_sep']; exact .rfl) $$ Hw
  icases Hw' with ⟨Hp3, Hsl, Hgr⟩
  ihave Hroom := (regrant c l c h (act m ρ l.castSucc c h)) $$ [Hx Hsp]
  · isplitl [Hx]; · iexact Hx
    iexact Hsp
  icases Hroom with ⟨Hg, Hleft⟩
  iapply (wp_sumP m ρ c l h _)
  isplitl [Hpa]; · iexact Hpa
  isplitl [Hsl]; · iexact Hsl
  isplitl [Hg]; · iexact Hg
  iintro ⟨Hpa, Hsl, Hx⟩
  ihave Hof := (show iprop((bigSep Finset.univ fun j => posn (3, j, h) c (l.val + 1)) ∗ (bigSep Finset.univ fun j => ownS c j h (part m ρ l (peer j c) c h)))
    ⊢ (iprop((bigSep Finset.univ fun j => posn (3, j, h) c (l.val + 1)) ∗ (bigSep Finset.univ fun j => offer l.succ c j h)
        ∗ (bigSep Finset.univ fun j => leftS l c j h)) : sProp 𝕄) from by
    simp only [← bigSep_sep']; exact bigSep_mono fun j _ => reoffer c l j h _) $$ [Hp3 Hsl]
  · isplitl [Hp3]; · iexact Hp3
    iexact Hsl
  icases Hof with ⟨Hp3, Hof, Hls⟩
  iapply (wp_sendPiece m ρ K c l.succ h L k (hL.mono (by rw [Fin.val_succ]; omega)))
  isplitr; · iexact HR
  isplitl [Hx Hps Htk Hgr Hof]
  · isplitl [Hx]; · iexact Hx
    simp only [bigSep_sep']
    isplitl [Hps]; · iexact Hps
    isplitl [Htk]; · iexact Htk
    isplitl [Hgr]; · iexact Hgr
    iexact Hof
  isplitl [HO]; · iexact HO
  iintro ⟨Hs, HO⟩
  iapply Hk
  isplitr [HO]
  · isplitl [Hpa]; · iapply (ownP_any paccM c c h _); iexact Hpa
    isplitl [Hleft]; · iexact Hleft
    simp only [bigSep_sep']
    isplitl [Hp3]; · iexact Hp3
    isplitl [Hls]; · iexact Hls
    iexact Hs
  · iexact HO

/-- All own pieces of a layer. -/
theorem wp_ownPieces {Q : PUnit → sProp 𝕄} (l : Fin 3) (L : List Ob) (k : Prg F) (hL : Above (4 + 2 * l.val) L) :
    iprop(recs m ρ K
        ∗ (all1 (fun h => ownP fullM c c h fullShare (act m ρ l.castSucc c h)) ∗ all1 (fun h => anyP paccM c c h) ∗ all1 (fun h => spare l c c h)
          ∗ all2 (fun j h => credit (3, j, h) c l.val) ∗ all2 (fun j h => posn (3, j, h) c l.val) ∗ all2 (fun j h => posn (0, j, h) c (l.val + 1))
          ∗ all2 (fun j h => tokAG l.succ c j h))
        ∗ owesL c (agL l.succ ++ L)
        ∗ (((all1 (fun h => anyP paccM c c h) ∗ all1 (fun h => left l c c h)
            ∗ all2 (fun j h => posn (3, j, h) c (l.val + 1)) ∗ all2 (fun j h => leftS l c j h) ∗ all2 (fun j h => posn (0, j, h) c (l.val + 1))
            ∗ all2 (fun j h => credit (0, j, h) c (l.val + 1))) ∗ owesL c L) -∗ WP c k Q))
      ⊢ WP c (ownPieces l c (W1 m ρ l c) (W2 m ρ l c) k) Q := by
  have e := wp_each c (recs m ρ K) (Q := Q) _ _ (agOb l.succ) (4 + 2 * l.val) L _ hs (by decide) (by decide)
    (fun h => (agOb_above l.succ h).mono (by rw [Fin.val_succ]; omega)) hL
    (fun h L' k' hL' => wp_own m ρ K c l h L' k' hL') k
  simp only [bigSep_sep'] at e
  exact e

end Cert.KernelIdeal.Mlp

end
-- ==== Proof.KernelIdeal.Memory.lean ====
/-
The buffers cut into pieces and put together again.
-/
module

public import proofs.«01_k».proof.Proof.KernelIdeal.Layers
public import Idealize.ShloMosaic.Lib.Ring

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (c : Dev nD)

/-- Over the devices: the device itself and its peers. -/
theorem bigSep_dev (Φ : Dev nD → sProp 𝕄) : bigSep Finset.univ Φ = iprop(Φ c ∗ bigSep Finset.univ fun j => Φ (peer j c)) := by
  have h1 : (Finset.univ : Finset (Dev nD)) = insert c (Finset.univ.map ⟨fun j => peer j c, peer_inj c⟩) := by revert c; decide
  rw [h1, bigSep_insert (by revert c; decide), bigSep_map]; rfl

/-! ## Disjointness and covering -/

/-- Different chunks have no row in common; -/
theorem chunks_disjoint (p p' : Dev nD) (h : p ≠ p') : Disjoint (rectC p).set (rectC p').set :=
  Ring.lead_disjoint (s := S1024x256) 0 256 offC S256x256.size offC_inb (fun _ => rfl) rfl p p' h
/-- the chunks are all rows. -/
theorem chunks_cover : Finset.univ.biUnion (fun p => (rectC p).set) = Finset.univ :=
  Ring.lead_cover (s := S1024x256) 0 256 offC S256x256.size offC_inb (fun _ => rfl)
    (fun b a h => by fin_cases a; exact absurd rfl h; rfl) rfl (fun a h => by fin_cases a; exact absurd rfl h; rfl) rfl
/-- Different quarters of the input have no row in common; -/
theorem quarters_disjoint (h h' : Fin 4) (hh : h ≠ h') : Disjoint (rectX h).set (rectX h').set :=
  Ring.lead_disjoint (s := S256x256) 0 64 offX S64x256.size offX_inb (fun _ => rfl) rfl h h' hh
/-- the quarters are all of its rows. -/
theorem quarters_cover : Finset.univ.biUnion (fun h => (rectX h).set) = Finset.univ :=
  Ring.lead_cover (s := S256x256) 0 64 offX S64x256.size offX_inb (fun _ => rfl)
    (fun b a h => by fin_cases a; exact absurd rfl h; rfl) rfl (fun a h => by fin_cases a; exact absurd rfl h; rfl) rfl

/-- The piece a row of a buffer of all the rows lies in, and the row there. -/
def chunkOf (i : S1024x256.Idx) : Dev nD := ⟨(i 0).val / 256, Nat.div_lt_of_lt_mul (i 0).isLt⟩
def pieceOf (i : S1024x256.Idx) : Fin 4 := ⟨(i 0).val % 256 / 64, Nat.div_lt_of_lt_mul (Nat.mod_lt _ (by decide))⟩
def placeOf (i : S1024x256.Idx) : S64x256.Idx :=
  fun a => match a with
  | ⟨0, _⟩ => ⟨(i 0).val % 64, Nat.mod_lt _ (by decide)⟩
  | ⟨1, _⟩ => ⟨(i 1).val, (i 1).isLt⟩

/-- The row of a piece's place in the whole, -/
theorem emb_row (p : Dev nD) (h : Fin 4) (x : S64x256.Idx) : ((rectP p h).emb x 0).val = 256 * p.val + 64 * h.val + (x 0).val := by
  rw [Rect.emb_apply]; show _ + 1 * _ = _; rw [Nat.one_mul]; rfl
/-- and its column. -/
theorem emb_col (p : Dev nD) (h : Fin 4) (x : S64x256.Idx) : ((rectP p h).emb x 1).val = (x 1).val := by
  rw [Rect.emb_apply]; show 0 + 1 * _ = _; rw [Nat.one_mul, Nat.zero_add]

/-- A piece's place is in that chunk, that piece, at that place; -/
theorem place_emb (p : Dev nD) (h : Fin 4) (x : S64x256.Idx) :
    chunkOf ((rectP p h).emb x) = p ∧ pieceOf ((rectP p h).emb x) = h ∧ placeOf ((rectP p h).emb x) = x := by
  have h0 := emb_row p h x
  have h1 := emb_col p h x
  have hx : (x 0).val < 64 := (x 0).isLt
  have hh := h.isLt
  refine ⟨Fin.ext ?_, Fin.ext ?_, funext fun a => ?_⟩
  · show ((rectP p h).emb x 0).val / 256 = p.val; rw [h0]; omega
  · show ((rectP p h).emb x 0).val % 256 / 64 = h.val; rw [h0]; omega
  · fin_cases a
    · exact Fin.ext (show ((rectP p h).emb x 0).val % 64 = (x 0).val by rw [h0]; omega)
    · exact Fin.ext h1

/-- and every place is the one so described. -/
theorem emb_place (i : S1024x256.Idx) : (rectP (chunkOf i) (pieceOf i)).emb (placeOf i) = i := by
  funext a
  fin_cases a
  · refine Fin.ext ((emb_row _ _ _).trans ?_)
    show 256 * ((i 0).val / 256) + 64 * ((i 0).val % 256 / 64) + (i 0).val % 64 = (i 0).val
    omega
  · exact Fin.ext ((emb_col _ _ _).trans rfl)

/-- Different pieces have no place in common; -/
theorem pieces_disjoint (t t' : Dev nD × Fin 4) (ht : t ≠ t') : Disjoint (rectP t.1 t.2).set (rectP t'.1 t'.2).set := by
  rw [Finset.disjoint_left]
  intro i hi hi'
  rw [← Rect.map_emb_univ, Finset.mem_map] at hi hi'
  obtain ⟨x, -, rfl⟩ := hi
  obtain ⟨x', -, e⟩ := hi'
  obtain ⟨a1, a2, -⟩ := place_emb t.1 t.2 x
  obtain ⟨b1, b2, -⟩ := place_emb t'.1 t'.2 x'
  have e' : (rectP t'.1 t'.2).emb x' = (rectP t.1 t.2).emb x := e
  rw [e'] at b1 b2
  exact ht (Prod.ext (a1.symm.trans b1) (a2.symm.trans b2))

/-- the pieces are all places. -/
theorem pieces_cover : Finset.univ.biUnion (fun t : Dev nD × Fin 4 => (rectP t.1 t.2).set) = Finset.univ := by
  ext i
  simp only [Finset.mem_biUnion, Finset.mem_univ, true_and, iff_true]
  refine ⟨(chunkOf i, pieceOf i), ?_⟩
  rw [← Rect.map_emb_univ, Finset.mem_map]
  exact ⟨placeOf i, Finset.mem_univ _, emb_place i⟩

/-- Different landing slots have no place in common; -/
theorem slots_disjoint (t t' : Fin 3 × Fin 4) (ht : t ≠ t') : Disjoint (rectS t.1 t.2).set (rectS t'.1 t'.2).set := by
  rw [Finset.disjoint_left]
  intro i hi hi'
  have a0 := Rect.mem_set_unit.mp hi 0
  have a1 := Rect.mem_set_unit.mp hi 1
  have b0 := Rect.mem_set_unit.mp hi' 0
  have b1 := Rect.mem_set_unit.mp hi' 1
  have a0' : t.1.val ≤ (i 0).val ∧ (i 0).val < t.1.val + 1 := a0
  have b0' : t'.1.val ≤ (i 0).val ∧ (i 0).val < t'.1.val + 1 := b0
  have a1' : 64 * t.2.val ≤ (i 1).val ∧ (i 1).val < 64 * t.2.val + 64 := a1
  have b1' : 64 * t'.2.val ≤ (i 1).val ∧ (i 1).val < 64 * t'.2.val + 64 := b1
  exact ht (Prod.ext (Fin.ext (by omega)) (Fin.ext (by omega)))

/-- the slots are all of the landing buffer. -/
theorem slots_cover : Finset.univ.biUnion (fun t : Fin 3 × Fin 4 => (rectS t.1 t.2).set) = Finset.univ := by
  ext i
  simp only [Finset.mem_biUnion, Finset.mem_univ, true_and, iff_true]
  have h1 : (i 1).val < 256 := (i 1).isLt
  refine ⟨(⟨(i 0).val, (i 0).isLt⟩, ⟨(i 1).val / 64, by omega⟩), Rect.mem_set_unit.mpr fun a => ?_⟩
  fin_cases a
  · exact ⟨le_refl (i 0).val, Nat.lt_succ_self (i 0).val⟩
  · refine ⟨?_, ?_⟩
    · show 64 * ((i 1).val / 64) ≤ (i 1).val; omega
    · show (i 1).val < 64 * ((i 1).val / 64) + 64; omega
  · exact ⟨Nat.zero_le _, (Nat.zero_add 256).symm ▸ (i 2).isLt⟩

/-! ## Cutting -/

/-- A quarter of a chunk is a piece. -/
theorem quarter_emb (M : Memref sig .tc .vmem S1024x256 .bf16) (p : Dev nD) (h : Fin 4) :
    (((M.slice (rectC p) (fun _ => rfl)).slice (rectX h) (fun _ => rfl)).view).emb = (rowsM M p h).view.emb := by
  show (rectX h).emb.trans ((rectC p).emb.trans M.view.emb) = (rectP p h).emb.trans M.view.emb
  have e : ∀ x : S64x256.Idx, (rectC p).emb ((rectX h).emb x) = (rectP p h).emb x := fun x => by
    funext a
    apply Fin.ext
    rw [Rect.emb_apply, Rect.emb_apply, Rect.emb_apply]
    fin_cases a
    · show 256 * p.val + 1 * (64 * h.val + 1 * (x 0).val) = 256 * p.val + 64 * h.val + 1 * (x 0).val
      omega
    · show 0 + 1 * (0 + 1 * (x 1).val) = 0 + 1 * (x 1).val
      omega
  ext x : 1
  exact congrArg M.view.emb (e x)

/-- A quarter of a device's own chunk is one of its pieces. -/
theorem owns_quarter (M : Memref sig .tc .vmem S1024x256 .bf16) (p : Dev nD) (h : Fin 4) (q : PosShare TreeShare) (V : Piece F) :
    (owns (c : Thread nD τ) ((M.slice (rectC p) (fun _ => rfl)).slice (rectX h) (fun _ => rfl)) q V : sProp 𝕄) ⊢ ownP M c p h q V := by
  unfold ownP owns
  have hset : ((M.slice (rectC p) (fun _ => rfl)).slice (rectX h) (fun _ => rfl)).view.set = (rowsM M p h).view.set :=
    congrArg (fun e => Finset.univ.map e) (quarter_emb M p h)
  iintro ⟨%f, %hf, H⟩
  iexists f
  isplitr
  · ipureintro
    rw [← hf]
    funext x
    rw [View.read_apply, View.read_apply]
    exact congrArg (fun e => _root_.cast (congrArg (Elt F) M.view.elt_eq) (f (e x))) (quarter_emb M p h).symm
  · iapply (Entails.of_eq (congrArg (fun S => (M.view.loc (c : Thread nD τ) ↦[S]{q} f : sProp 𝕄)) hset))
    iexact H

/-- A chunk is cut into its four pieces. -/
theorem chunk_pieces (M : Memref sig .tc .vmem S1024x256 .bf16) (p : Dev nD) (q : PosShare TreeShare) (X : S256x256.Idx → Elt F .bf16) :
    (owns (c : Thread nD τ) (M.slice (rectC p) (fun _ => rfl)) q X : sProp 𝕄)
      ⊢ all1 fun h => ownP M c p h q (fun i => X ((rectX h).emb i)) :=
  (owns_rects (c : Thread nD τ) (M.slice (rectC p) (fun _ => rfl)) q rectX (fun _ _ => rfl) quarters_disjoint quarters_cover X).trans
    (bigSep_mono fun h _ => owns_quarter c M p h q _)

/-- A buffer of all the rows is cut into the device's own chunk and the pieces of its peers' chunks. -/
theorem cut_rows (M : Memref sig .tc .vmem S1024x256 .bf16) (X : S1024x256.Idx → Elt F .bf16) :
    (owns (c : Thread nD τ) M fullShare X : sProp 𝕄)
      ⊢ iprop((∃ Y : S256x256.Idx → Elt F .bf16, owns (c : Thread nD τ) (M.slice (rectC c) (fun _ => rfl)) fullShare Y)
          ∗ all2 fun j h => anyP M c (peer j c) h) := by
  refine (owns_rects (c : Thread nD τ) M fullShare rectC (fun _ _ => rfl) chunks_disjoint chunks_cover X).trans ?_
  rw [bigSep_dev c]
  refine BIClass.sep_mono ?_ ?_
  · iintro H; iexists _; iexact H
  · rw [all2_swap]
    refine bigSep_mono fun j _ => (chunk_pieces c M (peer j c) fullShare _).trans ?_
    exact bigSep_mono fun h _ => ownP_any _ _ _ _ _

/-- The same with the own chunk cut up too. -/
theorem cut_rows_all (M : Memref sig .tc .vmem S1024x256 .bf16) (X : S1024x256.Idx → Elt F .bf16) :
    (owns (c : Thread nD τ) M fullShare X : sProp 𝕄)
      ⊢ iprop(all1 (fun h => anyP M c c h) ∗ all2 fun j h => anyP M c (peer j c) h) := by
  refine (cut_rows c M X).trans (sep_mono_left ?_)
  iintro ⟨%Y, H⟩
  ihave H' := (chunk_pieces c M c fullShare Y) $$ H
  iapply (all1_mono (fun h => ownP_any M c c h _)); iexact H'

/-- The landing buffer is cut into its slots. -/
theorem cut_slots (X : S3x256x256.Idx → Elt F .bf16) :
    (owns (c : Thread nD τ) rsM fullShare X : sProp 𝕄) ⊢ all2 fun j h => anyS c j h := by
  refine (owns_rects (c : Thread nD τ) rsM fullShare (fun t : Fin 3 × Fin 4 => rectS t.1 t.2) (fun _ _ => rfl) slots_disjoint slots_cover X).trans ?_
  rw [bigSep_univ_prod, all2_swap]
  refine bigSep_mono fun j _ => bigSep_mono fun h _ => ?_
  unfold anyS ownS owns
  show (iprop(∃ f, ⌜_⌝ ∗ _) : sProp 𝕄) ⊢ iprop(∃ V f, ⌜_⌝ ∗ _)
  iintro ⟨%f, -, H⟩
  iexists (slotM j h).view.read (Elt F) f, f
  isplitr; · ipureintro; rfl
  have hs : (slotM j h).view.set = (rsM.slice (rectS j h) (fun _ => rfl)).view.set :=
    View.set_reshape (v := rsM.access (rectS j h)) squeezes_S1x64x256_S64x256.numel_eq
  iapply (Entails.of_eq (congrArg (fun S => (rsM.view.loc (c : Thread nD τ) ↦[S]{fullShare} f : sProp 𝕄)) hs.symm))
  iexact H

/-! ## Putting together -/

/-- Contents of a buffer of all the rows from the contents of its pieces. -/
def glue (V : Dev nD → Fin 4 → Piece F) : S1024x256.Idx → Elt F .bf16 := fun i => V (chunkOf i) (pieceOf i) (placeOf i)
/-- The whole glued from pieces, cut to a piece, is that piece. -/
theorem glue_emb (V : Dev nD → Fin 4 → Piece F) (p : Dev nD) (h : Fin 4) : (fun x => glue V ((rectP p h).emb x)) = V p h := by
  funext x
  obtain ⟨h1, h2, h3⟩ := place_emb p h x
  unfold glue
  rw [h1, h2, h3]

/-- Own pieces and peers' pieces, over all pieces. -/
theorem join_index (Φ : Dev nD → Fin 4 → sProp 𝕄) :
    iprop(all1 (fun h => Φ c h) ∗ all2 fun j h => Φ (peer j c) h) = bigSep Finset.univ fun t : Dev nD × Fin 4 => Φ t.1 t.2 := by
  rw [bigSep_univ_prod, bigSep_dev c, all2_swap]; rfl

/-- The pieces at known contents make the buffer at known contents. -/
theorem join_rows (M : Memref sig .tc .vmem S1024x256 .bf16) (V : Dev nD → Fin 4 → Piece F) :
    iprop(all1 (fun h => ownP M c c h fullShare (V c h)) ∗ all2 fun j h => ownP M c (peer j c) h fullShare (V (peer j c) h))
      ⊢ (owns (c : Thread nD τ) M fullShare (glue V) : sProp 𝕄) := by
  rw [join_index c (fun p h => ownP M c p h fullShare (V p h))]
  have e : ∀ t : Dev nD × Fin 4, (ownP M c t.1 t.2 fullShare (V t.1 t.2) : sProp 𝕄)
      ⊢ owns (c : Thread nD τ) (M.slice (rectP t.1 t.2) (fun _ => rfl)) fullShare (fun x => glue V ((rectP t.1 t.2).emb x)) := fun t => by
    rw [glue_emb V t.1 t.2]; exact Entails.of_eq rfl
  exact (bigSep_mono fun t _ => e t).trans (owns_of_rects (c : Thread nD τ) M fullShare (fun t : Dev nD × Fin 4 => rectP t.1 t.2)
    (fun _ _ => rfl) pieces_disjoint pieces_cover (glue V))

/-- The pieces at some contents make the buffer at some contents. -/
theorem join_rows_any (M : Memref sig .tc .vmem S1024x256 .bf16) :
    iprop(all1 (fun h => anyP M c c h) ∗ all2 fun j h => anyP M c (peer j c) h)
      ⊢ (iprop(∃ X : S1024x256.Idx → Elt F .bf16, owns (c : Thread nD τ) M fullShare X) : sProp 𝕄) := by
  rw [join_index c (fun p h => anyP M c p h)]
  unfold anyP
  have hne : Nonempty (Piece F) := ⟨fun _ => Classical.choice (Elt.nonempty F .bf16)⟩
  refine (Idealize.SL.BI.bigSep_exists_pi Finset.univ (fun (t : Dev nD × Fin 4) (V : Piece F) => ownP M c t.1 t.2 fullShare V)).trans ?_
  iintro ⟨%V, H⟩
  iexists glue fun p h => V (p, h)
  iapply (join_rows c M fun p h => V (p, h))
  iapply (Entails.of_eq (join_index c (fun p h => ownP M c p h fullShare (V (p, h)))).symm)
  iexact H

/-- The slots at some contents make the landing buffer at some contents. -/
theorem join_slots (f₀ : Buf (Elt F) ((c : Thread nD τ).loc cc0_scratch2)) :
    (all2 fun j h => anyS c j h) ⊢ (iprop(∃ f : Buf (Elt F) ((c : Thread nD τ).loc cc0_scratch2), ((c : Thread nD τ).loc cc0_scratch2) ↦{fullShare} f) : sProp 𝕄) := by
  rw [all2_swap, ← bigSep_univ_prod (fun t : Fin 3 × Fin 4 => anyS c t.1 t.2)]
  refine (bigSep_mono fun t _ => ?_).trans (Ring.pointsTo_blocks_join_exists (ℓ := (c : Thread nD τ).loc cc0_scratch2)
    (fun t : Fin 3 × Fin 4 => (rectS t.1 t.2).set) slots_disjoint slots_cover f₀)
  unfold anyS ownS owns
  show (iprop(∃ V f, ⌜_⌝ ∗ _) : sProp 𝕄) ⊢ iprop(∃ f, _)
  iintro ⟨%V, %f, -, H⟩
  iexists f
  have hs : (slotM t.1 t.2).view.set = (rectS t.1 t.2).set :=
    (View.set_reshape (v := rsM.access (rectS t.1 t.2)) squeezes_S1x64x256_S64x256.numel_eq).trans (View.set_slice_whole _ _)
  iapply (Entails.of_eq (congrArg (fun S => (rsM.view.loc (c : Thread nD τ) ↦[S]{fullShare} f : sProp 𝕄)) hs))
  iexact H

end Cert.KernelIdeal.Mlp

end
-- ==== Proof.KernelIdeal.Body.lean ====
/-
The whole body of a device.
-/
module

public import proofs.«01_k».proof.Proof.KernelIdeal.Memory
public import Idealize.ShloMosaic.Lib.VecWindow

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Option Ky → ℕ) (c : Dev nD)

/-! ## The barrier -/

/-- The duty on peer `j`'s barrier. -/
def tokBar (j : Fin 3) : sProp 𝕄 := iprop(dutyTok ER (barC (peer j c)) 0 j ∗ reached ER (barC (peer j c)) 0)

/-- Signal peer `j`, giving it the chunk it is to write. -/
theorem wp_knock {Q : PUnit → sProp 𝕄} (j : Fin 3) (L : List Ob) (k : Prg F) :
    iprop(recs m ρ K ∗ (tokBar c j ∗ bigSep Finset.univ fun h => iprop(anyP fullM c (peer j c) h ∗ reached ER (dcell (1, j, h) c) 0))
        ∗ owesL c ([Ob.knock j] ++ L) ∗ ((emp ∗ owesL c L) -∗ WP c k Q))
      ⊢ WP c (Prog.op (.semSignal (Dev.tc (peer j c)) barS 1) fun _ => k) Q := by
  unfold owesL tokBar
  iintro ⟨#HR, ⟨⟨Ht, Hr⟩, Hg⟩, ⟨%W, HO⟩, Hk⟩
  ihave HI := (recs_bar m ρ K (peer j c)) $$ HR
  rw [List.singleton_append, owed_cons]
  iapply (Rounds.wp_signal 𝒱₀ ER (Rd m ρ) (c : Thread nD τ) none (dst := (peer j c : Thread nD τ)) (κ := K (peer j c, none)) (d := j)
    (by rw [show ((Dev.tc (peer j c), SemLoc.reg barS) : GSem nD τ sig) = barC (peer j c) from rfl, duties_bar]; exact Finset.mem_univ _)
    (amount_bar m ρ (peer j c) j) 0 (owed c L) rfl (W := W)) $$ [HI HO Ht Hr Hg]
  · isplitl [HI]; · iexact HI
    isplitl [HO]; · iexact HO
    isplitl [Ht]; · iexact Ht
    isplitl [Hg]
    · iapply (Entails.of_eq (payload_bar m ρ (peer j c) j).symm)
      unfold barPay grant
      rw [peer_peer]
      iexact Hg
    iexact Hr
  iintro HO
  iapply Hk
  isplitr; · iempintro
  iexists W; iexact HO

/-- Signal every peer, wait for every peer: each chunk that is to be written remotely is in the writer's hands. -/
theorem wp_barrier {Q : PUnit → sProp 𝕄} (L : List Ob) (k : Prg F) (hL : Above 2 L) :
    iprop(recs m ρ K
        ∗ (bigSep Finset.univ (fun j => tokBar c j) ∗ all2 (fun j h => anyP fullM c (peer j c) h)
          ∗ all2 (fun j h => reached ER (dcell (1, j, h) c) 0) ∗ atPos ER (barC c) 0 ∅ 0 ∗ cred (tallyAt (barC c) 0 3))
        ∗ owesL c (js.flatMap (fun j => [Ob.knock j]) ++ L)
        ∗ (((all2 (fun j h => grant 0 c j h) ∗ atPos ER (barC c) 1 ∅ 0) ∗ owesL c L) -∗ WP c k Q))
      ⊢ WP c (barrier c k) Q := by
  have e := wp_each c (recs m ρ K) (Q := Q)
    (fun j => iprop(tokBar c j ∗ bigSep Finset.univ fun h => iprop(anyP fullM c (peer j c) h ∗ reached ER (dcell (1, j, h) c) 0)))
    (fun _ => iprop(emp)) (fun j => [Ob.knock j]) 1 L
    (fun j k => Prog.op (.semSignal (Dev.tc (peer j c)) barS 1) fun _ => k) js (by decide) (by decide)
    (fun j => Above.cons le_rfl Above.nil) (hL.mono (by omega)) (fun j L' k' _ => wp_knock m ρ K c j L' k')
    (Prog.op (.semWait barS 3) fun _ => k)
  simp only [bigSep_sep', ← all2_swap] at e
  iintro ⟨#HR, ⟨Ht, Hm, Hr, Hat, Hc⟩, HO, Hk⟩
  iapply e
  isplitr; · iexact HR
  isplitl [Ht Hm Hr]
  · isplitl [Ht]; · iexact Ht
    isplitl [Hm]; · iexact Hm
    iexact Hr
  isplitl [HO]; · iexact HO
  iintro ⟨-, HO⟩
  unfold owesL
  icases HO with ⟨%W, HO⟩
  ihave HI := (recs_bar m ρ K c) $$ HR
  iapply (Rounds.wp_wait_rest_token 𝒱₀ ER (Rd m ρ) (c : Thread nD τ) none (κ := K (c, none))
    (wpE_semWait_eq 𝒱₀ (c : Thread nD τ) none Set.univ) (Set.mem_univ _) 0
    (O := owed c L) (W := W) (R := 0) (m := 0) (T := ∅) (by rw [Nat.zero_add]; exact (expect_bar m ρ c).symm)) $$ [HI Hc HO Hat]
  · isplitl [HI]; · iexact HI
    isplitl [Hc]; · iexact Hc
    isplitl [HO]; · iexact HO
    isplitr
    · iapply (mayWait c (.reg barS) 0 L 2 (by omega) (by rw [show ((c : Thread nD τ), SemLoc.reg barS) = barC c from rfl, lv_bar]; omega) hL)
      iapply (recs_lev m ρ K); iexact HR
    iexact Hat
  iintro ⟨HO, Hat, -, Hp⟩
  iapply Hk
  isplitr [HO]
  · isplitl [Hp]
    · ihave Hp' := (Entails.of_eq (rest_bar m ρ c)) $$ Hp
      rw [all2_swap]
      iexact Hp'
    iexact Hat
  iexists _; iexact HO

/-! ## Whole reads, and the device's block of `x` -/

/-- Read the whole of a memref. -/
theorem wp_loadAll {Q : PUnit → sProp 𝕄} {s : Shape} (M : Memref sig .tc .vmem s .bf16) (off : Fin s.rank → ℕ) (inb : ∀ a, off a + s.size a ≤ s.size a)
    {hl : M.view.LoadsAt (Rect.unit off s.size inb).toLoadRect} (V : s.Idx → Elt F .bf16) (k : (s.Idx → Elt F .bf16) → Prg F) :
    (owns (c : Thread nD τ) M fullShare V : sProp 𝕄)
      ⊢ iprop((owns (c : Thread nD τ) M fullShare V -∗ WP c (k V) Q) -∗ WP c (Prog.op (.load M (Rect.unit off s.size inb).toLoadRect hl) k) Q) := by
  unfold owns
  iintro ⟨%f, %hf, H⟩ Hk
  iapply (wp_load 𝒱₀ (c : Thread nD τ) none Set.univ (m := M) (f := f) (S := M.view.set) (View.setOn_subset_set _ _)) $$ H
  iintro H
  rw [View.readAt_full M.view f inb, hf]
  iapply Hk
  iexists f
  isplitr; · ipureintro; exact hf
  iexact H

/-- A layer's two weights on device `c`. -/
def weights (l : Fin 3) : sProp 𝕄 :=
  iprop(owns (c : Thread nD τ) (w1M l) fullShare (w1stg m ρ l c) ∗ owns (c : Thread nD τ) (w2M l) fullShare (w2stg m ρ l c))

/-- Reading a layer's two weights gives the program after it their contents, and gives the buffers back. -/
theorem wp_loadW {Q : PUnit → sProp 𝕄} (l : Fin 3) (k : FVec F S256x512 .bf16 → FVec F S512x256 .bf16 → Prg F) :
    (weights m ρ c l : sProp 𝕄) ⊢ iprop((weights m ρ c l -∗ WP c (k (W1 m ρ l c) (W2 m ρ l c)) Q) -∗ WP c (loadW l k) Q) := by
  unfold weights
  iintro ⟨H1, H2⟩ Hk
  iapply (wp_loadAll c (w1M l) ![0, 0] inb_S256x512_S256x512_0_0 (w1stg m ρ l c)) $$ H1; iintro H1
  iapply (wp_loadAll c (w2M l) ![0, 0] inb_S512x256_S512x256_0_0 (w2stg m ρ l c)) $$ H2; iintro H2
  iapply Hk
  isplitl [H1]; · iexact H1
  iexact H2

/-- The block of `x` is copied into the device's own chunk: the first activation. -/
theorem wp_storeX {Q : PUnit → sProp 𝕄} (k : Prg F) :
    iprop(owns (c : Thread nD τ) xM fullShare (xstg m ρ c)
        ∗ (∃ Y : S256x256.Idx → Elt F .bf16, owns (c : Thread nD τ) (fullM.slice (rectC c) (fun _ => rfl)) fullShare Y)
        ∗ ((owns (c : Thread nD τ) xM fullShare (xstg m ρ c) ∗ all1 (fun h => ownP (buf 0) c c h fullShare (act m ρ 0 c h))) -∗ WP c k Q))
      ⊢ WP c (storeX c k) Q := by
  iintro ⟨Hx, ⟨%Y, Hf⟩, Hk⟩
  iapply (wp_loadAll c xM ![0, 0] inb_S256x256_S256x256_0_0 (xstg m ρ c)) $$ Hx; iintro Hx
  ihave H' := (show (owns (c : Thread nD τ) (fullM.slice (rectC c) (fun _ => rfl)) fullShare Y : sProp 𝕄) ⊢ _ from by unfold owns; exact .rfl) $$ Hf
  icases H' with ⟨%f, %hf, Hf⟩
  iapply (wp_load_rect 𝒱₀ (c : Thread nD τ) none Set.univ (m := fullM) (r := rectC c) (f := f) (Finset.Subset.refl _)) $$ Hf
  iintro Hf
  iapply (wp_store 𝒱₀ (c : Thread nD τ) none Set.univ (m := fullM) (r := rectC c) (Mk := Finset.univ) (f := f) (w := k0_pay1 (xstg m ρ c))
    (S := (fullM.access (rectC c)).set) (Finset.Subset.refl _)) $$ Hf
  iintro Hf
  iapply Hk
  isplitl [Hx]; · iexact Hx
  ihave H2 := (owns_intro (c : Thread nD τ) (fullM.slice (rectC c) (fun _ => rfl)) fullShare
    ((fullM.access (rectC c)).write (Elt F) f (k0_pay1 (xstg m ρ c)) Finset.univ)) $$ Hf
  ihave H3 := (Entails.of_eq (congrArg (fun x => (owns (c : Thread nD τ) (fullM.slice (rectC c) (fun _ => rfl)) fullShare x : sProp 𝕄))
    (View.read_write_univ (v := fullM.access (rectC c)) f (k0_pay1 (xstg m ρ c))))) $$ H2
  iapply (chunk_pieces c fullM c fullShare (k0_pay1 (xstg m ρ c)))
  iexact H3

/-! ## A layer -/

/-- What device `c` holds between two layers, the arrivals of layer `l` behind it. -/
def Mid (l : Fin 3) : sProp 𝕄 :=
  iprop(all1 (fun h => ownP fullM c c h fullShare (act m ρ l.castSucc c h)) ∗ all1 (fun h => anyP paccM c c h)
    ∗ all2 (fun j h => posn (0, j, h) c (l.val + 1)) ∗ all2 (fun j h => posn (1, j, h) c (l.val + 1))
    ∗ all2 (fun j h => credit (2, j, h) c l.val) ∗ all2 (fun j h => posn (2, j, h) c l.val) ∗ all2 (fun j h => posn (3, j, h) c l.val))

/-- What the layer takes besides: duties, credits, and the next weights. -/
def Need (l : Fin 2) : sProp 𝕄 :=
  iprop(all2 (fun j h => credit (3, j, h) c l.val) ∗ all2 (fun j h => tokAG l.succ.castSucc c j h)
    ∗ all2 (fun j h => credit (1, j, h) c (l.val + 1)) ∗ all2 (fun j h => tokRS l.succ c j h)
    ∗ all2 (fun j h => spare l.succ c (peer j c) h) ∗ weights m ρ c l.succ)

/-- Before the last layer nothing is needed on top, -/
theorem spare_idle (l : Fin 3) (hl : l ≠ 2) (p : Dev nD) (h : Fin 4) : spare (F := F) l c p h = iprop(emp) := by
  fin_cases l
  · rfl
  · rfl
  · exact absurd rfl hl

/-- for all pieces of a chunk at once, -/
theorem spare_all1 (l : Fin 3) (hl : l ≠ 2) (p : Dev nD) : (iprop(emp) : sProp 𝕄) ⊢ all1 (fun h => spare l c p h) := by
  unfold all1
  rw [bigSep_congr (fun h _ => spare_idle c l hl p h)]
  exact Entails.of_eq (bigSep_emp_const _).symm
/-- and for all peers and pieces. -/
theorem spare_all2 (l : Fin 3) (hl : l ≠ 2) : (iprop(emp) : sProp 𝕄) ⊢ all2 (fun j h => spare l c (peer j c) h) := by
  unfold all2
  rw [bigSep_congr (fun h _ => (bigSep_congr (fun j _ => spare_idle c l hl (peer j c) h)).trans (bigSep_emp_const _))]
  exact Entails.of_eq (bigSep_emp_const _).symm

/-- The sums of one of the first two layers, with the gather and the products of the next one. -/
theorem wp_layer {Q : PUnit → sProp 𝕄} (l : Fin 2) (L : List Ob) (k : FVec F S256x512 .bf16 → FVec F S512x256 .bf16 → Prg F) (hL : Above (5 + 2 * l.val) L) :
    iprop(recs m ρ K ∗ (Mid m ρ c l.castSucc ∗ Need m ρ c l) ∗ owesL c (agL l.succ.castSucc ++ (rsL l.succ ++ L))
        ∗ (((Mid m ρ c l.succ ∗ all2 (fun j h => left l.succ c (peer j c) h) ∗ weights m ρ c l.succ) ∗ owesL c L)
            -∗ WP c (k (W1 m ρ l.succ c) (W2 m ρ l.succ c)) Q))
      ⊢ WP c (layer l c (W1 m ρ l.castSucc c) (W2 m ρ l.castSucc c) k) Q := by
  have hrs : Above (4 + 2 * l.val) (rsL l.succ ++ L) :=
    Above.append ((rsL_above l.succ).mono (by rw [Fin.val_succ]; omega)) (hL.mono (by omega))
  have e1 := fun k' => wp_ownPieces m ρ K c (Q := Q) l.castSucc (rsL l.succ ++ L) k' hrs
  have e2 := fun k' => wp_drainRS m ρ K c (Q := Q) l.castSucc (rsL l.succ ++ L) k' (hrs.mono (by omega))
  have e3 := fun k' => wp_arrivals m ρ K c (Q := Q) l.succ L k' (hL.mono (by rw [Fin.val_succ]; omega))
  have e4 := fun k' => wp_drainAG m ρ K c (Q := Q) l.succ.castSucc L k' (hL.mono (by omega))
  have hl : l.castSucc ≠ 2 := fun e => absurd (congrArg Fin.val e) (by rw [Fin.val_castSucc]; exact Nat.ne_of_lt l.isLt)
  have hb : buf l.succ.castSucc = fullM := by clear * -; revert l; intro l; fin_cases l <;> rfl
  simp only [Fin.val_castSucc, Fin.val_succ, Fin.succ_castSucc, hb] at e1 e2 e3 e4
  unfold Mid Need
  simp only [Fin.val_castSucc, Fin.val_succ]
  iintro ⟨#HR, ⟨⟨Hact, Hpo, Hp0, Hp1, Hc2, Hp2, Hp3⟩, Hc3, HtA, Hc1, HtR, Hsp, HW⟩, HO, Hk⟩
  iapply e1
  isplitr; · iexact HR
  isplitl [Hact Hpo Hc3 Hp3 Hp0 HtA]
  · isplitl [Hact]; · iexact Hact
    isplitl [Hpo]; · iexact Hpo
    isplitr
    · iapply (spare_all1 c l.castSucc hl c); iempintro
    isplitl [Hc3]; · iexact Hc3
    isplitl [Hp3]; · iexact Hp3
    isplitl [Hp0]; · iexact Hp0
    iexact HtA
  isplitl [HO]; · iexact HO
  iintro ⟨⟨Hpo, -, Hp3, -, Hp0, Hc0⟩, HO⟩
  iapply e2
  isplitr; · iexact HR
  isplitl [Hc2 Hp2]
  · isplitl [Hc2]; · iexact Hc2
    iexact Hp2
  isplitl [HO]; · iexact HO
  iintro ⟨⟨Hp2, Hpp⟩, HO⟩
  iapply (wp_loadW m ρ c l.succ) $$ HW
  iintro HW
  iapply e3
  isplitr; · iexact HR
  isplitl [Hc1 Hp1 HtR Hpp Hp2 Hsp]
  · isplitl [Hc1]; · iexact Hc1
    isplitl [Hp1]; · iexact Hp1
    isplitl [HtR]; · iexact HtR
    isplitl [Hpp]; · iexact Hpp
    isplitl [Hp2]; · iexact Hp2
    iexact Hsp
  isplitl [HO]; · iexact HO
  iintro ⟨⟨Hp1, Hp2, Hc2, Hlf⟩, HO⟩
  iapply e4
  isplitr; · iexact HR
  isplitl [Hc0 Hp0]
  · isplitl [Hc0]; · iexact Hc0
    iexact Hp0
  isplitl [HO]; · iexact HO
  iintro ⟨⟨Hp0, Hact⟩, HO⟩
  iapply Hk
  isplitr [HO]
  · isplitr [Hlf HW]
    · isplitl [Hact]; · iexact Hact
      isplitl [Hpo]; · iexact Hpo
      isplitl [Hp0]; · iexact Hp0
      isplitl [Hp1]; · iexact Hp1
      isplitl [Hc2]; · iexact Hc2
      isplitl [Hp2]; · iexact Hp2
      iexact Hp3
    isplitl [Hlf]; · iexact Hlf
    iexact HW
  iexact HO

/-! ## The whole body -/

/-- The duties, credits and positions a device enters with. -/
def toks : sProp 𝕄 :=
  iprop((bigSep Finset.univ fun j => tokBar c j) ∗ (bigSep Finset.univ fun r => all2 fun j h => tokAG r c j h)
    ∗ (bigSep Finset.univ fun l => all2 fun j h => tokRS l c j h))
def creds : sProp 𝕄 :=
  iprop(cred (tallyAt (barC c) 0 3) ∗ (bigSep Finset.univ fun r : Fin 4 => all2 fun j h => credit (1, j, h) c r.val)
    ∗ (bigSep Finset.univ fun l : Fin 3 => all2 fun j h => credit (3, j, h) c l.val))
def posns (b : ℕ) (n : Fin 4 → ℕ) : sProp 𝕄 :=
  iprop(atPos ER (barC c) b ∅ 0 ∗ (bigSep Finset.univ fun k => all2 fun j h => posn (k, j, h) c (n k)))

/-- The staged inputs. -/
def inputs : sProp 𝕄 := iprop(owns (c : Thread nD τ) xM fullShare (xstg m ρ c) ∗ (bigSep Finset.univ fun l => weights m ρ c l))

/-- The three buffers of the device's own, at some contents. -/
def scratch : sProp 𝕄 :=
  iprop((∃ X : S1024x256.Idx → Elt F .bf16, owns (c : Thread nD τ) fullM fullShare X)
    ∗ (∃ X : S1024x256.Idx → Elt F .bf16, owns (c : Thread nD τ) paccM fullShare X)
    ∗ (∃ X : S3x256x256.Idx → Elt F .bf16, owns (c : Thread nD τ) rsM fullShare X))

/-- The result: the activation after the last layer. -/
def result : S1024x256.Idx → Elt F .bf16 := glue (act m ρ 3)

/-- A conjunction over four pieces, written out. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A position at round `r` of a semaphore shows that it has got there. -/
theorem posn_reached (k : Ky) (r : ℕ) : (posn k c r : sProp 𝕄) ⊢ iprop(posn k c r ∗ reached ER (dcell k c) r) := by
  unfold posn
  iintro ⟨H, #Hr⟩
  isplitl [H]
  · isplitl [H]; · iexact H
    iexact Hr
  iexact Hr

/-- The same of all the semaphores of one kind. -/
theorem all2_posn (k : Fin 4) (r : ℕ) :
    (all2 (fun j h => posn (k, j, h) c r) : sProp 𝕄)
      ⊢ iprop(all2 (fun j h => posn (k, j, h) c r) ∗ all2 (fun j h => reached ER (dcell (k, j, h) c) r)) := by
  rw [← all2_sep]; exact all2_mono fun j h => posn_reached c (k, j, h) r

/-- From the entry to the arrivals of layer 0 taken in. -/
theorem wp_first {Q : PUnit → sProp 𝕄} (k : FVec F S256x512 .bf16 → FVec F S512x256 .bf16 → Prg F) :
    iprop(recs m ρ K
        ∗ ((bigSep Finset.univ (fun j => tokBar c j) ∗ all2 (fun j h => tokAG 0 c j h) ∗ all2 (fun j h => tokRS 0 c j h))
          ∗ (cred (tallyAt (barC c) 0 3) ∗ all2 (fun j h => credit (1, j, h) c 0))
          ∗ (atPos ER (barC c) 0 ∅ 0 ∗ all2 (fun j h => posn (0, j, h) c 0) ∗ all2 (fun j h => posn (1, j, h) c 0)
            ∗ all2 (fun j h => posn (2, j, h) c 0) ∗ all2 (fun j h => posn (3, j, h) c 0))
          ∗ (owns (c : Thread nD τ) xM fullShare (xstg m ρ c) ∗ weights m ρ c 0) ∗ scratch c)
        ∗ owesL c restS
        ∗ (((Mid m ρ c 0 ∗ atPos ER (barC c) 1 ∅ 0 ∗ owns (c : Thread nD τ) xM fullShare (xstg m ρ c) ∗ weights m ρ c 0) ∗ owesL c rest0) -∗ WP c (k (W1 m ρ 0 c) (W2 m ρ 0 c)) Q))
      ⊢ WP c (barrier c <| storeX c <| each hs (fun h => sendPiece 0 c h) <| loadW 0 fun w1 w2 => arrivals 0 c w1 w2 <| drainAG 0 c <| k w1 w2) Q := by
  have h0 : Above 3 rest0 := by
    exact Above.append ((agL_above 1).mono (by decide)) (Above.append ((rsL_above 1).mono (by decide))
      (Above.append ((agL_above 2).mono (by decide)) (Above.append ((rsL_above 2).mono (by decide))
        (Above.append ((agL_above 3).mono (by decide)) Above.nil))))
  have hB : Above 2 (rsL 0 ++ rest0) := Above.append ((rsL_above 0).mono (by decide)) (h0.mono (by decide))
  have hS : Above 2 restB := by unfold restB; exact Above.append ((agL_above 0).mono (by decide)) hB
  unfold scratch
  iintro ⟨#HR, ⟨⟨HtB, HtA, HtR⟩, ⟨Hcb, Hc1⟩, ⟨Hab, Hp0, Hp1, Hp2, Hp3⟩, ⟨Hx, HW⟩, ⟨%X, Hf⟩, ⟨%Y, Hp⟩, ⟨%Z, Hs⟩⟩, HO, Hk⟩
  ihave Hf' := (cut_rows c fullM X) $$ Hf
  icases Hf' with ⟨Hf, Hfp⟩
  ihave Hp' := (cut_rows_all c paccM Y) $$ Hp
  icases Hp' with ⟨Hpo, Hpp⟩
  ihave Hs' := (cut_slots c Z) $$ Hs
  ihave Hp1' := (all2_posn c 1 0) $$ Hp1
  icases Hp1' with ⟨Hp1, Hr1⟩
  ihave Hp3' := (all2_posn c 3 0) $$ Hp3
  icases Hp3' with ⟨Hp3, Hr3⟩
  iapply (wp_barrier m ρ K c restB _ hS)
  isplitr; · iexact HR
  isplitl [HtB Hfp Hr1 Hab Hcb]
  · isplitl [HtB]; · iexact HtB
    isplitl [Hfp]; · iexact Hfp
    isplitl [Hr1]; · iexact Hr1
    isplitl [Hab]; · iexact Hab
    iexact Hcb
  isplitl [HO]; · iexact HO
  iintro ⟨⟨Hg, Hab⟩, HO⟩
  iapply (wp_storeX m ρ c)
  isplitl [Hx]; · iexact Hx
  isplitl [Hf]; · iexact Hf
  iintro ⟨Hx, Hact⟩
  iapply (wp_sendAll m ρ K c 0 (rsL 0 ++ rest0) _ hB)
  isplitr; · iexact HR
  isplitl [Hact Hp0 HtA Hg Hs' Hr3]
  · isplitl [Hact]; · iexact Hact
    isplitl [Hp0]; · iexact Hp0
    isplitl [HtA]; · iexact HtA
    isplitl [Hg]; · iexact Hg
    iapply (show iprop(all2 (fun j h => anyS (F := F) c j h) ∗ all2 (fun j h => reached ER (dcell (3, j, h) c) 0)) ⊢ all2 (fun j h => offer 0 c j h) by
      rw [← all2_sep]; exact all2_mono fun j h => Entails.of_eq (if_pos (show (0 : Fin 4).val < 3 by decide)).symm)
    isplitl [Hs']; · iexact Hs'
    iexact Hr3
  isplitl [HO]; · iexact HO
  iintro ⟨⟨Hp0, Hc0⟩, HO⟩
  iapply (wp_loadW m ρ c 0) $$ HW
  iintro HW
  iapply (wp_arrivals m ρ K c 0 rest0 _ h0)
  isplitr; · iexact HR
  isplitl [Hc1 Hp1 HtR Hpp Hp2]
  · isplitl [Hc1]; · iexact Hc1
    isplitl [Hp1]; · iexact Hp1
    isplitl [HtR]; · iexact HtR
    isplitl [Hpp]; · iexact Hpp
    isplitl [Hp2]; · iexact Hp2
    iapply (spare_all2 c 0 (by decide)); iempintro
  isplitl [HO]; · iexact HO
  iintro ⟨⟨Hp1, Hp2, Hc2, -⟩, HO⟩
  iapply (wp_drainAG m ρ K c 0 rest0 _ (h0.mono (by decide)))
  isplitr; · iexact HR
  isplitl [Hc0 Hp0]
  · isplitl [Hc0]; · iexact Hc0
    iexact Hp0
  isplitl [HO]; · iexact HO
  iintro ⟨⟨Hp0, Hact⟩, HO⟩
  iapply Hk
  isplitr [HO]
  · isplitr [Hab Hx HW]
    · unfold Mid
      isplitl [Hact]; · iexact Hact
      isplitl [Hpo]; · iexact Hpo
      isplitl [Hp0]; · iexact Hp0
      isplitl [Hp1]; · iexact Hp1
      isplitl [Hc2]; · iexact Hc2
      isplitl [Hp2]; · iexact Hp2
      iexact Hp3
    isplitl [Hab]; · iexact Hab
    isplitl [Hx]; · iexact Hx
    iexact HW
  iexact HO

/-- The body that has ended meets its goal. -/
theorem wp_end {Q : PUnit → sProp 𝕄} : Q ⟨⟩ ⊢ WP c (Prog.ret ⟨⟩) Q := by
  unfold WP
  rw [wp_ret]
  iintro H
  imodintro
  iexact H

/-- From the last layer's arrivals to the end. -/
theorem wp_last {Q : PUnit → sProp 𝕄} :
    iprop(recs m ρ K
        ∗ (Mid m ρ c 2 ∗ all1 (fun h => anyP oM c c h) ∗ all2 (fun j h => credit (3, j, h) c 2) ∗ all2 (fun j h => tokAG 3 c j h)
          ∗ all2 (fun j h => credit (1, j, h) c 3))
        ∗ owesL c rest2
        ∗ ((((all2 (fun j h => posn (0, j, h) c 4) ∗ all2 (fun j h => posn (1, j, h) c 4) ∗ all2 (fun j h => posn (2, j, h) c 3)
              ∗ all2 (fun j h => posn (3, j, h) c 3))
            ∗ (all1 (fun h => ownP oM c c h fullShare (act m ρ 3 c h)) ∗ all2 (fun j h => ownP oM c (peer j c) h fullShare (act m ρ 3 (peer j c) h)))
            ∗ all1 (fun h => anyP fullM c c h) ∗ (all1 (fun h => anyP paccM c c h) ∗ all2 (fun j h => anyP paccM c (peer j c) h))
            ∗ all2 (fun j h => anyS c j h)) ∗ owesL c []) -∗ Q ⟨⟩))
      ⊢ WP c (ownPieces 2 c (W1 m ρ 2 c) (W2 m ρ 2 c) <| drainRS c <|
          each hs (fun h k => each js (fun j k => waitAGR 3 c j h k) k) <| drainAG 3 c <| Prog.ret ⟨⟩) Q := by
  unfold Mid
  iintro ⟨#HR, ⟨⟨Hact, Hpo, Hp0, Hp1, Hc2, Hp2, Hp3⟩, Ho, Hc3, HtA, Hc1⟩, HO, Hk⟩
  iapply (wp_ownPieces m ρ K c 2 [] _ Above.nil)
  isplitr; · iexact HR
  isplitl [Hact Hpo Ho Hc3 Hp3 Hp0 HtA]
  · isplitl [Hact]; · iexact Hact
    isplitl [Hpo]; · iexact Hpo
    isplitl [Ho]; · iexact Ho
    isplitl [Hc3]; · iexact Hc3
    isplitl [Hp3]; · iexact Hp3
    isplitl [Hp0]; · iexact Hp0
    iexact HtA
  isplitl [HO]; · iexact HO
  iintro ⟨⟨Hpo, Hlf, Hp3, Hls, Hp0, Hc0⟩, HO⟩
  iapply (wp_drainRS m ρ K c 2 [] _ Above.nil)
  isplitr; · iexact HR
  isplitl [Hc2 Hp2]
  · isplitl [Hc2]; · iexact Hc2
    iexact Hp2
  isplitl [HO]; · iexact HO
  iintro ⟨⟨Hp2, Hpp⟩, HO⟩
  iapply (wp_lastArrivals m ρ K c _)
  isplitr; · iexact HR
  isplitl [Hc1 Hp1]
  · isplitl [Hc1]; · iexact Hc1
    iexact Hp1
  isplitl [HO]; · iexact HO
  iintro ⟨⟨Hp1, Hop⟩, HO⟩
  iapply (wp_drainAG m ρ K c 3 [] _ Above.nil)
  isplitr; · iexact HR
  isplitl [Hc0 Hp0]
  · isplitl [Hc0]; · iexact Hc0
    iexact Hp0
  isplitl [HO]; · iexact HO
  iintro ⟨⟨Hp0, Hoo⟩, HO⟩
  iapply (wp_end c)
  iapply Hk
  isplitr [HO]
  · isplitl [Hp0 Hp1 Hp2 Hp3]
    · isplitl [Hp0]; · iexact Hp0
      isplitl [Hp1]; · iexact Hp1
      isplitl [Hp2]; · iexact Hp2
      iexact Hp3
    isplitl [Hoo Hop]
    · isplitl [Hoo]; · iexact Hoo
      iexact Hop
    isplitl [Hlf]; · iexact Hlf
    isplitl [Hpo Hpp]
    · isplitl [Hpo]; · iexact Hpo
      iexact Hpp
    iexact Hls
  iexact HO

/-- Device `c`'s body, run whole: the result buffer ends at the last activation, all cells at the end of their rounds. -/
theorem wp_prog (f₀ : Buf (Elt F) ((c : Thread nD τ).loc cc0_scratch2)) :
    iprop(recs m ρ K
        ∗ (toks c ∗ creds c ∗ posns c 0 (fun _ => 0) ∗ inputs m ρ c ∗ scratch c
          ∗ (∃ X : S1024x256.Idx → Elt F .bf16, owns (c : Thread nD τ) oM fullShare X))
        ∗ owesL c restS)
      ⊢ WP c (prog c) (fun _ => iprop((posns c 1 ![4, 4, 3, 3] ∗ inputs m ρ c ∗ scratch c ∗ owns (c : Thread nD τ) oM fullShare (result m ρ)) ∗ owesL c [])) := by
  unfold toks creds posns inputs
  simp only [four, three]
  iintro ⟨#HR, ⟨⟨HtB, ⟨HA0, HA1, HA2, HA3⟩, ⟨HR0, HR1, HR2⟩⟩, ⟨Hcb, ⟨Hc10, Hc11, Hc12, Hc13⟩, ⟨Hc30, Hc31, Hc32⟩⟩, ⟨Hab, Hp0, Hp1, Hp2, Hp3⟩,
    ⟨Hx, HW0, HW1, HW2⟩, Hsc, ⟨%X, Ho⟩⟩, HO⟩
  ihave Ho' := (cut_rows_all c oM X) $$ Ho
  icases Ho' with ⟨Hoo, Hop⟩
  unfold prog
  iapply (wp_first m ρ K c (fun w1 w2 => layer 0 c w1 w2 fun w1 w2 => layer 1 c w1 w2 fun w1 w2 =>
    ownPieces 2 c w1 w2 <| drainRS c <| each hs (fun h k => each js (fun j k => waitAGR 3 c j h k) k) <| drainAG 3 c <| Prog.ret ⟨⟩))
  isplitr; · iexact HR
  isplitl [HtB HA0 HR0 Hcb Hc10 Hab Hp0 Hp1 Hp2 Hp3 Hx HW0 Hsc]
  · isplitl [HtB HA0 HR0]
    · isplitl [HtB]; · rw [three]; iexact HtB
      isplitl [HA0]; · iexact HA0
      iexact HR0
    isplitl [Hcb Hc10]
    · isplitl [Hcb]; · iexact Hcb
      iexact Hc10
    isplitl [Hab Hp0 Hp1 Hp2 Hp3]
    · isplitl [Hab]; · iexact Hab
      isplitl [Hp0]; · iexact Hp0
      isplitl [Hp1]; · iexact Hp1
      isplitl [Hp2]; · iexact Hp2
      iexact Hp3
    isplitl [Hx HW0]
    · isplitl [Hx]; · iexact Hx
      iexact HW0
    iexact Hsc
  isplitl [HO]; · iexact HO
  iintro ⟨⟨HM, Hab, Hx, HW0⟩, HO⟩
  have h5 : Above 5 rest1 := Above.append ((agL_above 2).mono (by decide)) (Above.append ((rsL_above 2).mono (by decide))
    (Above.append ((agL_above 3).mono (by decide)) Above.nil))
  have h7 : Above 7 rest2 := Above.append ((agL_above 3).mono (by decide)) Above.nil
  iapply (wp_layer m ρ K c 0 rest1 _ h5)
  isplitr; · iexact HR
  isplitl [HM Hc30 HA1 Hc11 HR1 HW1]
  · isplitl [HM]; · iexact HM
    unfold Need
    isplitl [Hc30]; · iexact Hc30
    isplitl [HA1]; · iexact HA1
    isplitl [Hc11]; · iexact Hc11
    isplitl [HR1]; · iexact HR1
    isplitr
    · iapply (spare_all2 c 1 (by decide)); iempintro
    iexact HW1
  isplitl [HO]; · iexact HO
  iintro ⟨⟨HM, -, HW1⟩, HO⟩
  iapply (wp_layer m ρ K c 1 rest2 _ h7)
  isplitr; · iexact HR
  isplitl [HM Hc31 HA2 Hc12 HR2 Hop HW2]
  · isplitl [HM]; · iexact HM
    unfold Need
    isplitl [Hc31]; · iexact Hc31
    isplitl [HA2]; · iexact HA2
    isplitl [Hc12]; · iexact Hc12
    isplitl [HR2]; · iexact HR2
    isplitl [Hop]; · iexact Hop
    iexact HW2
  isplitl [HO]; · iexact HO
  iintro ⟨⟨HM, Hfp, HW2⟩, HO⟩
  iapply (wp_last m ρ K c)
  isplitr; · iexact HR
  isplitl [HM Hoo Hc32 HA3 Hc13]
  · isplitl [HM]; · iexact HM
    isplitl [Hoo]; · iexact Hoo
    isplitl [Hc32]; · iexact Hc32
    isplitl [HA3]; · iexact HA3
    iexact Hc13
  isplitl [HO]; · iexact HO
  iintro ⟨⟨⟨Hp0, Hp1, Hp2, Hp3⟩, Ho, Hfo, Hpa, Hsl⟩, HO⟩
  ihave Ho' := (join_rows c oM (act m ρ 3)) $$ Ho
  ihave Hf' := (join_rows_any c fullM) $$ [Hfo Hfp]
  · isplitl [Hfo]; · iexact Hfo
    iexact Hfp
  ihave Hpa' := (join_rows_any c paccM) $$ Hpa
  ihave Hsl' := (join_slots c f₀) $$ Hsl
  icases Hsl' with ⟨%Z, Hsl⟩
  isplitr [HO]
  · isplitl [Hab Hp0 Hp1 Hp2 Hp3]
    · isplitl [Hab]; · iexact Hab
      isplitl [Hp0]; · iexact Hp0
      isplitl [Hp1]; · iexact Hp1
      isplitl [Hp2]; · iexact Hp2
      iexact Hp3
    isplitl [Hx HW0 HW1 HW2]
    · isplitl [Hx]; · iexact Hx
      isplitl [HW0]; · iexact HW0
      isplitl [HW1]; · iexact HW1
      iexact HW2
    isplitr [Ho']
    · unfold scratch
      isplitl [Hf']; · iexact Hf'
      isplitl [Hpa']; · iexact Hpa'
      iexists Z
      iapply (Entails.of_eq (owns_whole (c : Thread nD τ) cc0_scratch2 fullShare Z).symm)
      iexact Hsl
    iexact Ho'
  iexact HO

end Cert.KernelIdeal.Mlp

end
-- ==== Proof.KernelIdeal.Ghost.lean ====
/-
What the devices are given at the launch: invariants, positions, duties, credits; and what they end with.
-/
module

public import proofs.«01_k».proof.Proof.KernelIdeal.Body

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Option Ky → ℕ) (c : Dev nD)

/-! ## Re-indexing -/

/-- A conjunction over peers and pieces is one over their pairs. -/
theorem all2_pairs (Φ : Fin 3 → Fin 4 → sProp 𝕄) : (bigSep Finset.univ fun x : Fin 3 × Fin 4 => Φ x.1 x.2) = all2 Φ := by
  rw [bigSep_univ_prod, all2_swap]

/-- Over all copy semaphores: by array, then by peer and piece. -/
theorem bigSep_ky (Φ : Ky → sProp 𝕄) : bigSep Finset.univ Φ = bigSep Finset.univ fun k : Fin 4 => all2 fun j h => Φ (k, j, h) := by
  rw [bigSep_univ_prod]
  exact bigSep_congr fun k _ => all2_pairs fun j h => Φ (k, j, h)

/-- Over all the kernel's semaphores: the barrier and the copy semaphores. -/
theorem bigSep_option (Φ : Option Ky → sProp 𝕄) : bigSep Finset.univ Φ = iprop(Φ none ∗ bigSep Finset.univ fun k => Φ (some k)) := by
  have h1 : (Finset.univ : Finset (Option Ky)) = insert none (Finset.univ.map ⟨some, Option.some_injective _⟩) := by
    ext x; cases x <;> simp
  rw [h1, bigSep_insert (by simp), bigSep_map]; rfl

/-- Crossing over to the peer, for every device and peer at once. -/
theorem around1 (Φ : Dev nD → Fin 3 → sProp 𝕄) :
    (bigSep Finset.univ fun c : Dev nD => bigSep Finset.univ fun j => Φ c j)
      = bigSep Finset.univ fun c : Dev nD => bigSep Finset.univ fun j => Φ (peer j c) j := by
  have h1 := bigSep_univ_prod (fun x : Dev nD × Fin 3 => (Φ x.1 x.2 : sProp 𝕄))
  have h2 := bigSep_univ_prod (fun x : Dev nD × Fin 3 => (Φ (peer x.2 x.1) x.2 : sProp 𝕄))
  rw [← h1, ← h2]
  exact bigSep_univ_equiv ⟨fun x => (peer x.2 x.1, x.2), fun x => (peer x.2 x.1, x.2),
    fun x => Prod.ext (peer_peer x.2 x.1) rfl, fun x => Prod.ext (peer_peer x.2 x.1) rfl⟩ (fun x : Dev nD × Fin 3 => (Φ x.1 x.2 : sProp 𝕄))

/-- What each device holds of its peers is what each peer holds of it, all devices together. -/
theorem around2 (Φ : Dev nD → Fin 3 → Fin 4 → sProp 𝕄) :
    (bigSep Finset.univ fun c : Dev nD => all2 fun j h => Φ c j h) = bigSep Finset.univ fun c : Dev nD => all2 fun j h => Φ (peer j c) j h := by
  simp only [all2_swap]
  exact around1 fun c j => bigSep Finset.univ fun h => Φ c j h

/-! ## The cells and the duties -/

/-- Different devices and names are different counters. -/
theorem kcell_injective : Function.Injective (kcell : Dev nD × Option Ky → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The cells of the kernel's semaphores on all devices. -/
def ringCells : Finset (GSem nD τ sig) := Finset.univ.map ⟨kcell, kcell_injective⟩

/-- A device's duties by index: a barrier's three; a copy semaphore's, one a round. -/
abbrev Du : Type := Fin 3 ⊕ (Fin 4 × Ky)
abbrev tokOf (x : Dev nD × Du) : GSem nD τ sig × ℕ × Fin 3 := match x.2 with
  | .inl j => (barC x.1, 0, j)
  | .inr (r, k) => (dcell k x.1, r.val, 0)

/-- Different duties are different tokens. -/
theorem tokOf_injective : Function.Injective (tokOf : Dev nD × Du → GSem nD τ sig × ℕ × Fin 3) := by
  have key : ∀ (c c' : Dev nD) (i i' : Option Ky), kcell (c, i) = kcell (c', i') → c = c' ∧ i = i' := fun c c' i i' h =>
    ⟨congrArg Prod.fst (kcell_injective h), congrArg Prod.snd (kcell_injective h)⟩
  rintro ⟨c, j | ⟨r, k⟩⟩ ⟨c', j' | ⟨r', k'⟩⟩ h
  · obtain ⟨h1, -⟩ := key c c' none none (congrArg Prod.fst h)
    have h2 : j = j' := congrArg (fun x : GSem nD τ sig × ℕ × Fin 3 => x.2.2) h
    rw [h1, h2]
  · obtain ⟨-, h2⟩ := key c c' none (some k') (congrArg Prod.fst h)
    cases h2
  · obtain ⟨-, h2⟩ := key c c' (some k) none (congrArg Prod.fst h)
    cases h2
  · obtain ⟨h1, h2⟩ := key c c' (some k) (some k') (congrArg Prod.fst h)
    have h3 : r.val = r'.val := congrArg (fun x : GSem nD τ sig × ℕ × Fin 3 => x.2.1) h
    rw [h1, Option.some_injective _ h2, Fin.ext h3]

def ringToks : Finset (GSem nD τ sig × ℕ × Fin 3) := Finset.univ.map ⟨tokOf, tokOf_injective⟩

/-- The element of the user state at the launch. -/
def u₀ : UU :=
  (initOf (Pipeline.cells cfgs cellOf_inj) (Pipeline.launchToks cfgs cellOf_inj), initOf ringCells ringToks)

/-- The duties on device `c`'s own cells. -/
def ownToks (c : Dev nD) : sProp 𝕄 :=
  iprop((bigSep Finset.univ fun j : Fin 3 => dutyTok ER (barC c) 0 j)
    ∗ bigSep Finset.univ fun r : Fin 4 => bigSep Finset.univ fun k : Fin 4 => all2 fun j h => dutyTok ER (dcell (k, j, h) c) r.val 0)

/-- What the launch deals device `c`. -/
def G (c : Dev nD) : sProp 𝕄 :=
  iprop((bigSep Finset.univ fun k : Option Ky => roundState ER (Rd m ρ) (kcell (c, k)) 0)
    ∗ (bigSep Finset.univ fun k : Option Ky => iprop(atPos ER (kcell (c, k)) 0 ∅ 0 ∗ reached ER (kcell (c, k)) 0)) ∗ ownToks c)

/-- What the devices make of it together. -/
def G' (c : Dev nD) : sProp 𝕄 :=
  iprop(∃ K : Dev nD × Option Ky → ℕ, (bigSep Finset.univ fun ck => cellInv ER (Rd m ρ) (K ck) (kcell ck)) ∗ posns c 0 (fun _ => 0) ∗ toks c)

/-- The ghost state at the start, shared out to the devices. -/
theorem fund_ring : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : Option Ky => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    refine bigSep_congr fun c _ => ?_
    unfold ownToks
    rw [bigSep_univ_sum, bigSep_univ_prod]
    simp only [bigSep_ky]
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The semaphores -/

/-- The kernel's own semaphores: the copy semaphores. -/
abbrev osem (k : Ky) : SemLoc sig := dsem k

/-- The launch's semaphores are those the body names. -/
theorem ownSemFacts : Pipeline.OwnSemFacts cfg0.spec osem := by decide +kernel

/-- The only counter that outlives the call is the barrier's. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

/-- A device's counters at zero, by name. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Option Ky => semVal (kcell (c, k)) 0 : sProp 𝕄) := by
  rw [unscopedSems0_eq, bigSep_option]
  unfold Pipeline.ownSems0
  iintro ⟨HS, HB⟩
  isplitl [HB]; · iexact HB
  iexact HS

/-- A device's counters at zero, with its ghost state, set up the records of its semaphores. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Option Ky => semVal (kcell (c, k)) 0) ∗ bigSep Finset.univ fun k : Option Ky => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What is known for good may be given to every item. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Everything given to the devices, each duty with the device that pays it. -/
theorem toks_around :
    iprop((bigSep Finset.univ fun ck : Dev nD × Option Ky => reached ER (kcell ck) 0) ∗ bigSep Finset.univ fun c : Dev nD => (ownToks c : sProp 𝕄))
      ⊢ bigSep Finset.univ fun c : Dev nD => toks c := by
  have hown : ∀ c : Dev nD, (ownToks c : sProp 𝕄) ⊢ iprop((bigSep Finset.univ fun j : Fin 3 => dutyTok ER (barC c) 0 j)
      ∗ ((bigSep Finset.univ fun r : Fin 4 => all2 fun j h => dutyTok ER (dcell (0, j, h) c) r.val 0)
        ∗ bigSep Finset.univ fun r : Fin 4 => all2 fun j h => dutyTok ER (dcell (1, j, h) c) r.val 0)
      ∗ ((bigSep Finset.univ fun l : Fin 3 => all2 fun j h => dutyTok ER (dcell (2, j, h) c) l.val 0)
        ∗ bigSep Finset.univ fun l : Fin 3 => all2 fun j h => dutyTok ER (dcell (3, j, h) c) l.val 0)) := fun c => by
    unfold ownToks
    simp only [four, bigSep_sep']
    rw [three (fun l : Fin 3 => all2 fun j h => dutyTok ER (dcell (2, j, h) c) l.val 0), three (fun l : Fin 3 => all2 fun j h => dutyTok ER (dcell (3, j, h) c) l.val 0)]
    iintro ⟨HB, ⟨A0, A1, A2, A3⟩, ⟨B0, B1, B2, B3⟩, ⟨C0, C1, C2, -⟩, ⟨D0, D1, D2, -⟩⟩
    isplitl [HB]; · iexact HB
    isplitl [A0 A1 A2 A3 B0 B1 B2 B3]
    · isplitl [A0 A1 A2 A3]
      · isplitl [A0]; · iexact A0
        isplitl [A1]; · iexact A1
        isplitl [A2]; · iexact A2
        iexact A3
      isplitl [B0]; · iexact B0
      isplitl [B1]; · iexact B1
      isplitl [B2]; · iexact B2
      iexact B3
    isplitl [C0 C1 C2]
    · isplitl [C0]; · iexact C0
      isplitl [C1]; · iexact C1
      iexact C2
    isplitl [D0]; · iexact D0
    isplitl [D1]; · iexact D1
    iexact D2
  have hbar : iprop((bigSep Finset.univ fun ck : Dev nD × Option Ky => reached ER (kcell ck) 0)
        ∗ bigSep Finset.univ fun c : Dev nD => bigSep Finset.univ fun j : Fin 3 => (dutyTok ER (barC c) 0 j : sProp 𝕄))
      ⊢ bigSep Finset.univ fun c : Dev nD => bigSep Finset.univ fun j : Fin 3 => tokBar c j := by
    rw [around1 (fun c j => (dutyTok ER (barC c) 0 j : sProp 𝕄))]
    refine bigSep_with fun c _ => bigSep_with fun j _ => ?_
    unfold tokBar
    iintro ⟨#HR, HT⟩
    isplitl [HT]; · iexact HT
    iapply (show (bigSep Finset.univ fun ck : Dev nD × Option Ky => reached ER (kcell ck) 0 : sProp 𝕄) ⊢ reached ER (barC (peer j c)) 0 from
      bigSep_elim (Φ := fun ck : Dev nD × Option Ky => (reached ER (kcell ck) 0 : sProp 𝕄)) (Finset.mem_univ (peer j c, none)))
    iexact HR
  have hag : ∀ {n : ℕ} (k : Fin 4), (bigSep Finset.univ fun c : Dev nD => bigSep Finset.univ fun r : Fin n => all2 fun j h => (dutyTok ER (dcell (k, j, h) c) r.val 0 : sProp 𝕄))
      = bigSep Finset.univ fun c : Dev nD => bigSep Finset.univ fun r : Fin n => all2 fun j h => dutyTok ER (dcell (k, j, h) (peer j c)) r.val 0 := fun {n} k => by
    have sw : ∀ Φ : Dev nD → Fin n → sProp 𝕄, (bigSep Finset.univ fun c : Dev nD => bigSep Finset.univ fun r => Φ c r)
        = bigSep Finset.univ fun r => bigSep Finset.univ fun c : Dev nD => Φ c r := fun Φ => by
      have h1 := bigSep_univ_prod (fun x : Dev nD × Fin n => (Φ x.1 x.2 : sProp 𝕄))
      have h2 := bigSep_univ_prod (fun x : Fin n × Dev nD => (Φ x.2 x.1 : sProp 𝕄))
      rw [← h1, ← h2]
      exact bigSep_univ_equiv (Equiv.prodComm _ _) _
    rw [sw, sw]
    exact bigSep_congr fun r _ => around2 fun c j h => dutyTok ER (dcell (k, j, h) c) r.val 0
  refine (sep_mono_right (bigSep_mono fun c _ => hown c)).trans ?_
  simp only [bigSep_sep']
  rw [hag 1, hag 3]
  have e : (bigSep Finset.univ fun c : Dev nD => (toks c : sProp 𝕄)) = iprop((bigSep Finset.univ fun c : Dev nD => bigSep Finset.univ fun j : Fin 3 => tokBar c j)
      ∗ ((bigSep Finset.univ fun c : Dev nD => bigSep Finset.univ fun r : Fin 4 => all2 fun j h => dutyTok ER (dcell (0, j, h) c) r.val 0)
        ∗ bigSep Finset.univ fun c : Dev nD => bigSep Finset.univ fun r : Fin 4 => all2 fun j h => dutyTok ER (dcell (1, j, h) (peer j c)) r.val 0)
      ∗ ((bigSep Finset.univ fun c : Dev nD => bigSep Finset.univ fun l : Fin 3 => all2 fun j h => dutyTok ER (dcell (2, j, h) c) l.val 0)
        ∗ bigSep Finset.univ fun c : Dev nD => bigSep Finset.univ fun l : Fin 3 => all2 fun j h => dutyTok ER (dcell (3, j, h) (peer j c)) l.val 0)) := by
    unfold toks tokAG tokRS
    simp only [all2_sep, bigSep_sep']
  rw [e]
  iintro ⟨HR, HB, HA, HS⟩
  isplitl [HR HB]
  · iapply hbar
    isplitl [HR]; · iexact HR
    iexact HB
  isplitl [HA]; · iexact HA
  iexact HS

/-- A device's positions at the start. -/
theorem posns_intro (c : Dev nD) :
    (bigSep Finset.univ fun k : Option Ky => iprop(atPos ER (kcell (c, k)) 0 ∅ 0 ∗ reached ER (kcell (c, k)) 0) : sProp 𝕄)
      ⊢ posns c 0 (fun _ => 0) := by
  rw [bigSep_option, bigSep_ky]
  unfold posns posn
  iintro ⟨⟨H, -⟩, H'⟩
  isplitl [H]; · iexact H
  iexact H'

/-- The records get their names, and each duty goes to the device that pays it. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Option Ky => iprop(∃ κ : ℕ, cellInv ER (Rd m ρ) κ (kcell ck)))]
  iintro ⟨HI, Hat, Htok⟩
  ihave HK := (BI.bigSep_exists_pi Finset.univ (fun (ck : Dev nD × Option Ky) (κ : ℕ) => (cellInv ER (Rd m ρ) κ (kcell ck) : sProp 𝕄))) $$ HI
  icases HK with ⟨%K, #HI⟩
  ihave Hat' := (show (bigSep Finset.univ fun c : Dev nD => bigSep Finset.univ fun k : Option Ky => iprop(atPos ER (kcell (c, k)) 0 ∅ 0 ∗ reached ER (kcell (c, k)) 0) : sProp 𝕄)
      ⊢ iprop((bigSep Finset.univ fun c : Dev nD => bigSep Finset.univ fun k : Option Ky => iprop(atPos ER (kcell (c, k)) 0 ∅ 0 ∗ reached ER (kcell (c, k)) 0))
        ∗ bigSep Finset.univ fun ck : Dev nD × Option Ky => reached ER (kcell ck) 0) from by
    rw [← bigSep_univ_prod (fun ck : Dev nD × Option Ky => iprop(atPos ER (kcell ck) 0 ∅ 0 ∗ reached ER (kcell ck) 0)), bigSep_sep']
    iintro ⟨H, #H'⟩
    isplitl [H]
    · isplitl [H]; · iexact H
      iexact H'
    iexact H') $$ Hat
  icases Hat' with ⟨Hat, Hre⟩
  ihave Htk := (toks_around (F := F)) $$ [Hre Htok]
  · isplitl [Hre]; · iexact Hre
    iexact Htok
  iapply (bigSep_with (R := bigSep Finset.univ fun ck => cellInv ER (Rd m ρ) (K ck) (kcell ck)) (Φ := fun c => iprop(posns c 0 (fun _ => 0) ∗ toks c))
    fun c _ => by
      unfold G'
      iintro ⟨#HI, Hp, Ht⟩
      iexists K
      isplitr; · iexact HI
      isplitl [Hp]; · iexact Hp
      iexact Ht)
  isplitr; · iexact HI
  rw [bigSep_sep']
  isplitl [Hat]
  · iapply (show (bigSep Finset.univ fun c : Dev nD => bigSep Finset.univ fun k : Option Ky => iprop(atPos ER (kcell (c, k)) 0 ∅ 0 ∗ reached ER (kcell (c, k)) 0) : sProp 𝕄)
      ⊢ bigSep Finset.univ fun c : Dev nD => posns c 0 (fun _ => 0) from bigSep_mono fun c _ => posns_intro c)
    iexact Hat
  iexact Htk

/-- All devices' counters together set up the schedule. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What device `c` is credited when every peer owes it `o`. -/
theorem credit_of (c : Dev nD) (o : Ob) (i : Option Ky) (hc : ∃ j, ∀ d, o.cell d = kcell (peer j d, i)) :
    (Pipeline.launchCred (fun d => o.tally d) c : sProp 𝕄) ⊢ cred (tallyAt (kcell (c, i)) o.ix o.amt) := by
  obtain ⟨j, hj⟩ := hc
  have e : (fun d : Dev nD => o.tally d) = fun d => tallyAt (((peer j d).tc : Thread nD τ), csem i) o.ix o.amt := funext fun d => by
    unfold Ob.tally; rw [hj d]
  rw [e]
  exact Pipeline.launchCred_tallyAt (csem i) (peer j) (peer j) (peer_peer j) (peer_peer j) o.ix o.amt c

/-- The credit for one obligation of every device, its counter being a peer's. -/
theorem credit_one (c : Dev nD) (o : Ob) (L : List Ob) (i : Option Ky) (hc : ∃ j, ∀ d, o.cell d = kcell (peer j d, i)) :
    (Pipeline.launchCred (fun d => owed d ([o] ++ L)) c : sProp 𝕄)
      ⊢ iprop(cred (tallyAt (kcell (c, i)) o.ix o.amt) ∗ Pipeline.launchCred (fun d => owed d L) c) := by
  simp only [List.singleton_append, owed_cons]
  rw [Pipeline.launchCred_add]
  iintro ⟨H1, H2⟩
  isplitl [H2]
  · iapply (credit_of c o i hc); iexact H2
  iexact H1

/-- The credits of a list, item by item. -/
theorem credit_list {α : Type} (f : α → List Ob) (Φ : α → sProp 𝕄) (rest : List Ob)
    (step : ∀ x M, (Pipeline.launchCred (fun d => owed d (f x ++ M)) c : sProp 𝕄) ⊢ iprop(Φ x ∗ Pipeline.launchCred (fun d => owed d M) c)) :
    ∀ L : List α, (Pipeline.launchCred (fun d => owed d (L.flatMap f ++ rest)) c : sProp 𝕄)
      ⊢ iprop(bigSepL L Φ ∗ Pipeline.launchCred (fun d => owed d rest) c)
  | [] => by
    rw [bigSepL_nil]
    iintro H
    isplitr; · iempintro
    iexact H
  | x :: L => by
    have hc : bigSepL (x :: L) Φ = iprop(Φ x ∗ bigSepL L Φ) := bigSepL_cons ..
    rw [hc, List.flatMap_cons, List.append_assoc]
    iintro H
    ihave H' := (step x (L.flatMap f ++ rest)) $$ H
    icases H' with ⟨H1, H2⟩
    ihave H3 := (credit_list f Φ rest step L) $$ H2
    icases H3 with ⟨H3, H4⟩
    isplitr [H4]
    · isplitl [H1]; · iexact H1
      iexact H3
    iexact H4

/-- The credit for a list of obligations of every device. -/
theorem credit_all {α : Type} [Fintype α] [DecidableEq α] (f : α → List Ob) (Φ : α → sProp 𝕄) (rest : List Ob)
    (step : ∀ x M, (Pipeline.launchCred (fun d => owed d (f x ++ M)) c : sProp 𝕄) ⊢ iprop(Φ x ∗ Pipeline.launchCred (fun d => owed d M) c))
    (L : List α) (hL : Finset.univ = L.toFinset) (hn : L.Nodup) :
    (Pipeline.launchCred (fun d => owed d (L.flatMap f ++ rest)) c : sProp 𝕄)
      ⊢ iprop(bigSep Finset.univ Φ ∗ Pipeline.launchCred (fun d => owed d rest) c) := by
  rw [bigSep_univ_eq_bigSepL L hL hn]; exact credit_list c f Φ rest step L

/-- The credit for the gather of an activation; -/
theorem credit_ag (r : Fin 4) (rest : List Ob) :
    (Pipeline.launchCred (fun d => owed d (agL r ++ rest)) c : sProp 𝕄)
      ⊢ iprop(all2 (fun j h => credit (1, j, h) c r.val) ∗ Pipeline.launchCred (fun d => owed d rest) c) :=
  credit_all c (agOb r) (fun h => bigSep Finset.univ fun j => credit (1, j, h) c r.val) rest
    (fun h M => credit_all c (fun j => [Ob.ag r j h]) (fun j => credit (1, j, h) c r.val) M
      (fun j M' => credit_one c (Ob.ag r j h) M' (some (1, j, h)) ⟨j, fun d => rfl⟩) js (by decide) (by decide)) hs (by decide) (by decide)

/-- for the reduction of a layer; -/
theorem credit_rs (l : Fin 3) (rest : List Ob) :
    (Pipeline.launchCred (fun d => owed d (rsL l ++ rest)) c : sProp 𝕄)
      ⊢ iprop(all2 (fun j h => credit (3, j, h) c l.val) ∗ Pipeline.launchCred (fun d => owed d rest) c) :=
  credit_all c (rsOb l) (fun h => bigSep Finset.univ fun j => credit (3, j, h) c l.val) rest
    (fun h M => credit_all c (fun j => [Ob.rs l j h]) (fun j => credit (3, j, h) c l.val) M
      (fun j M' => credit_one c (Ob.rs l j h) M' (some (3, j, h)) ⟨j, fun d => rfl⟩) ws (by decide) (by decide)) hs (by decide) (by decide)

/-- for the barrier. -/
theorem credit_bar (rest : List Ob) :
    (Pipeline.launchCred (fun d => owed d (js.flatMap (fun j => [Ob.knock j]) ++ rest)) c : sProp 𝕄)
      ⊢ iprop(cred (tallyAt (barC c) 0 3) ∗ Pipeline.launchCred (fun d => owed d rest) c) := by
  refine (credit_all c (fun j => [Ob.knock j]) (fun _ => cred (tallyAt (barC c) 0 1)) rest
    (fun j M' => credit_one c (Ob.knock j) M' none ⟨j, fun d => rfl⟩) js (by decide) (by decide)).trans (sep_mono_left ?_)
  have e : (tallyAt (barC c) 0 3 : CellTallies nD τ sig ℕ) = tallyAt (barC c) 0 1 + (tallyAt (barC c) 0 1 + tallyAt (barC c) 0 1) := by
    show tallyAt (barC c) 0 (1 + (1 + 1)) = _
    rw [tallyAt_add, tallyAt_add]
  rw [three, e]
  exact (sep_mono_right (cred_add _ _).2).trans (cred_add _ _).2

/-- All of a device's credits. -/
theorem creds_intro : (Pipeline.launchCred (fun d => owed d restS) c : sProp 𝕄) ⊢ creds c := by
  unfold creds
  rw [four, three]
  iintro H
  ihave H := (credit_bar c _) $$ H
  icases H with ⟨HB, H⟩
  ihave H := (credit_ag c 0 _) $$ H
  icases H with ⟨HA0, H⟩
  ihave H := (credit_rs c 0 _) $$ H
  icases H with ⟨HR0, H⟩
  ihave H := (credit_ag c 1 _) $$ H
  icases H with ⟨HA1, H⟩
  ihave H := (credit_rs c 1 _) $$ H
  icases H with ⟨HR1, H⟩
  ihave H := (credit_ag c 2 _) $$ H
  icases H with ⟨HA2, H⟩
  ihave H := (credit_rs c 2 _) $$ H
  icases H with ⟨HR2, H⟩
  ihave H := (credit_ag c 3 _) $$ H
  icases H with ⟨HA3, H⟩
  isplitl [HB]; · iexact HB
  isplitl [HA0 HA1 HA2 HA3]
  · isplitl [HA0]; · iexact HA0
    isplitl [HA1]; · iexact HA1
    isplitl [HA2]; · iexact HA2
    iexact HA3
  isplitl [HR0]; · iexact HR0
  isplitl [HR1]; · iexact HR1
  iexact HR2

/-! ## The end -/

/-- At the end of its rounds a copy semaphore is at zero. -/
theorem close_copy (k : Ky) : iprop(recs m ρ K ∗ posn k c (cap k)) ⊢ |={Set.univ}=> (semVal (dcell k c) 0 : sProp 𝕄) := by
  unfold posn
  iintro ⟨#HR, H, -⟩
  iapply (Rounds.cell_close ER (Rd m ρ) (κ := K (c, some k)) (Set.mem_univ _) (fun h => h) (R := cap k) (fun r hr => duties_copy_later m ρ c k r hr))
  isplitr; · iapply (recs_copy m ρ K k c); iexact HR
  iexact H

/-- After the last round of each, a device's counters are given back at zero. -/
theorem close_all :
    iprop(recs m ρ K ∗ posns c 1 ![4, 4, 3, 3])
      ⊢ |={Set.univ}=> (iprop(semVal (barC c) 0 ∗ bigSep Finset.univ fun k : Ky => semVal (dcell k c) 0) : sProp 𝕄) := by
  unfold posns
  iintro ⟨#HR, HB, HK⟩
  imod (Rounds.cell_close ER (Rd m ρ) (κ := K (c, none)) (g := barC c) (Es := Set.univ) (Set.mem_univ _) (fun h => h) (R := 1)
    (fun r hr => duties_bar_later m ρ c r hr)) $$ [HB] with HB
  · isplitr; · iapply (recs_bar m ρ K c); iexact HR
    iexact HB
  imod (show iprop(recs m ρ K ∗ bigSep Finset.univ fun k : Fin 4 => all2 fun j h => posn (k, j, h) c ((![4, 4, 3, 3] : Fin 4 → ℕ) k))
      ⊢ |={Set.univ}=> (bigSep Finset.univ fun k : Ky => semVal (dcell k c) 0 : sProp 𝕄) from by
    have e : (bigSep Finset.univ fun k : Fin 4 => all2 fun j h => (posn (k, j, h) c ((![4, 4, 3, 3] : Fin 4 → ℕ) k) : sProp 𝕄))
        = bigSep Finset.univ fun k : Ky => posn k c (cap k) := by
      rw [bigSep_ky]
      exact bigSep_congr fun k _ => by fin_cases k <;> rfl
    rw [e]
    exact (bigSep_with fun k _ => close_copy m ρ K c k).trans (bigSep_fupd _ _)) $$ [HK] with HK
  · isplitr; · iexact HR
    iexact HK
  imodintro
  isplitl [HB]; · iexact HB
  iexact HK

end Cert.KernelIdeal.Mlp

end
-- ==== Proof.KernelIdeal.Run.lean ====
/-
The run of the whole program: the launch, the kernel on every device, the results written back.
-/
module

public import proofs.«01_k».proof.Proof.KernelIdeal.Ghost
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Pipeline.Value

@[expose] public section

noncomputable section

namespace Cert.KernelIdeal.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Option Ky → ℕ) (c : Dev nD)

/-! ## The pipeline's data -/

/-- What device `c`'s body starts from. -/
def start (c : Dev nD) : sProp 𝕄 :=
  iprop(∃ K, recs m ρ K ∗ toks c ∗ creds c ∗ posns c 0 (fun _ => 0))

/-- Before the body. -/
def Φ₀ (c : Dev nD) : sProp 𝕄 := iprop(start m ρ c ∗ scratch c)
/-- After it: the scratch buffers at some contents, every semaphore at zero. -/
def Φ₁ (c : Dev nD) : sProp 𝕄 :=
  iprop(scratch c ∗ semVal (barC c) 0 ∗ bigSep Finset.univ fun k : Ky => semVal (dcell k c) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => w1stg m ρ 0 c
    | ⟨2, _⟩ => w2stg m ρ 0 c
    | ⟨3, _⟩ => w1stg m ρ 1 c
    | ⟨4, _⟩ => w2stg m ρ 1 c
    | ⟨5, _⟩ => w1stg m ρ 2 c
    | ⟨6, _⟩ => w2stg m ρ 2 c
    | ⟨7, _⟩ => result m ρ
  Φ t := match t with
    | ⟨0, _⟩ => Φ₀ m ρ c
    | ⟨_ + 1, _⟩ => Φ₁ c
  q _ := fullShare
  owed t := match t with
    | ⟨0, _⟩ => owed c restS
    | ⟨_ + 1, _⟩ => 0

/-- Every window is held outright. -/
theorem share_eq (c : Dev nD) (w : Fin cfg0.W) : (dats m ρ 0 c).share w = fullShare := by unfold Dat.share; split <;> rfl

/-! ## The body -/

/-- What the pipeline hands the body. -/
def bodyPre (c : Dev nD) : sProp 𝕄 :=
  iprop(Φ₀ m ρ c ∗ (dats m ρ 0 c).owesAt 0 t0_0.castSucc
    ∗ (∃ d, owns c (Memref.whole cc0_stg0_0) fullShare ((dats m ρ 0 c).before (0 : Fin 8) t0_0 d))
    ∗ (∃ d, owns c (Memref.whole cc0_stg1_0) fullShare ((dats m ρ 0 c).before (1 : Fin 8) t0_0 d))
    ∗ (∃ d, owns c (Memref.whole cc0_stg2_0) fullShare ((dats m ρ 0 c).before (2 : Fin 8) t0_0 d))
    ∗ (∃ d, owns c (Memref.whole cc0_stg3_0) fullShare ((dats m ρ 0 c).before (3 : Fin 8) t0_0 d))
    ∗ (∃ d, owns c (Memref.whole cc0_stg4_0) fullShare ((dats m ρ 0 c).before (4 : Fin 8) t0_0 d))
    ∗ (∃ d, owns c (Memref.whole cc0_stg5_0) fullShare ((dats m ρ 0 c).before (5 : Fin 8) t0_0 d))
    ∗ (∃ d, owns c (Memref.whole cc0_stg6_0) fullShare ((dats m ρ 0 c).before (6 : Fin 8) t0_0 d))
    ∗ (∃ d, owns c (Memref.whole cc0_stg7_0) fullShare ((dats m ρ 0 c).before (7 : Fin 8) t0_0 d)))

/-- What it wants back. -/
def bodyPost (c : Dev nD) : sProp 𝕄 :=
  iprop(Φ₁ c ∗ (dats m ρ 0 c).owesAt 0 t0_0.succ
    ∗ owns c (Memref.whole cc0_stg0_0) fullShare (xstg m ρ c)
    ∗ owns c (Memref.whole cc0_stg1_0) fullShare (w1stg m ρ 0 c)
    ∗ owns c (Memref.whole cc0_stg2_0) fullShare (w2stg m ρ 0 c)
    ∗ owns c (Memref.whole cc0_stg3_0) fullShare (w1stg m ρ 1 c)
    ∗ owns c (Memref.whole cc0_stg4_0) fullShare (w2stg m ρ 1 c)
    ∗ owns c (Memref.whole cc0_stg5_0) fullShare (w1stg m ρ 2 c)
    ∗ owns c (Memref.whole cc0_stg6_0) fullShare (w2stg m ρ 2 c)
    ∗ owns c (Memref.whole cc0_stg7_0) fullShare (result m ρ))

/-- The inputs as staged, one by one. -/
theorem inputs_eq (c : Dev nD) : (inputs m ρ c : sProp 𝕄) =
    iprop(owns c (Memref.whole cc0_stg0_0) fullShare (xstg m ρ c)
      ∗ (owns c (Memref.whole cc0_stg1_0) fullShare (w1stg m ρ 0 c) ∗ owns c (Memref.whole cc0_stg2_0) fullShare (w2stg m ρ 0 c))
      ∗ (owns c (Memref.whole cc0_stg3_0) fullShare (w1stg m ρ 1 c) ∗ owns c (Memref.whole cc0_stg4_0) fullShare (w2stg m ρ 1 c))
      ∗ (owns c (Memref.whole cc0_stg5_0) fullShare (w1stg m ρ 2 c) ∗ owns c (Memref.whole cc0_stg6_0) fullShare (w2stg m ρ 2 c))) := by
  unfold inputs
  rw [three]
  rfl

/-- What the pipeline hands the body is what the kernel needs. -/
theorem pre_open : (bodyPre m ρ c : sProp 𝕄)
    ⊢ iprop(∃ K, recs m ρ K ∗ (toks c ∗ creds c ∗ posns c 0 (fun _ => 0) ∗ inputs m ρ c ∗ scratch c ∗ (∃ X, owns c oM fullShare X)) ∗ owesL c restS) := by
  unfold bodyPre Φ₀ start
  iintro ⟨⟨⟨%K, #HR, Ht, Hc, Hp⟩, Hs⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [show (dats m ρ 0 c).before (0 : Fin 8) t0_0 d0 = xstg m ρ c from by unfold Dat.before; rw [if_pos (fetch0_0 t0_0)]; rfl,
    show (dats m ρ 0 c).before (1 : Fin 8) t0_0 d1 = w1stg m ρ 0 c from by unfold Dat.before; rw [if_pos (fetch0_1 t0_0)]; rfl,
    show (dats m ρ 0 c).before (2 : Fin 8) t0_0 d2 = w2stg m ρ 0 c from by unfold Dat.before; rw [if_pos (fetch0_2 t0_0)]; rfl,
    show (dats m ρ 0 c).before (3 : Fin 8) t0_0 d3 = w1stg m ρ 1 c from by unfold Dat.before; rw [if_pos (fetch0_3 t0_0)]; rfl,
    show (dats m ρ 0 c).before (4 : Fin 8) t0_0 d4 = w2stg m ρ 1 c from by unfold Dat.before; rw [if_pos (fetch0_4 t0_0)]; rfl,
    show (dats m ρ 0 c).before (5 : Fin 8) t0_0 d5 = w1stg m ρ 2 c from by unfold Dat.before; rw [if_pos (fetch0_5 t0_0)]; rfl,
    show (dats m ρ 0 c).before (6 : Fin 8) t0_0 d6 = w2stg m ρ 2 c from by unfold Dat.before; rw [if_pos (fetch0_6 t0_0)]; rfl]
  unfold Dat.owesAt Pipeline.owesWithin
  icases Ho with ⟨%W, %hW, HO⟩
  rw [show (dats m ρ 0 c).owed t0_0.castSucc = owed c restS from rfl]
  iexists K
  isplitr; · iexact HR
  isplitr [HO]
  · isplitl [Ht]; · iexact Ht
    isplitl [Hc]; · iexact Hc
    isplitl [Hp]; · iexact Hp
    isplitl [H0 H1 H2 H3 H4 H5 H6]
    · rw [inputs_eq]
      isplitl [H0]; · iexact H0
      isplitl [H1 H2]
      · isplitl [H1]; · iexact H1
        iexact H2
      isplitl [H3 H4]
      · isplitl [H3]; · iexact H3
        iexact H4
      isplitl [H5]; · iexact H5
      iexact H6
    isplitl [Hs]; · iexact Hs
    iexists _
    iexact H7
  unfold owesL
  iexists W
  iexact HO

/-- What the kernel leaves is what the pipeline wants. -/
theorem post_close :
    iprop(recs m ρ K ∗ (posns c 1 ![4, 4, 3, 3] ∗ inputs m ρ c ∗ scratch c ∗ owns c oM fullShare (result m ρ)) ∗ owesL c [])
      ⊢ |={Set.univ}=> (bodyPost m ρ c : sProp 𝕄) := by
  rw [inputs_eq]
  iintro ⟨#HR, ⟨Hp, ⟨H0, ⟨H1, H2⟩, ⟨H3, H4⟩, H5, H6⟩, Hs, H7⟩, HO⟩
  imod (close_all m ρ K c) $$ [Hp] with ⟨HB, HK⟩
  · isplitr; · iexact HR
    iexact Hp
  imodintro
  unfold bodyPost Φ₁ Dat.owesAt Pipeline.owesWithin owesL
  icases HO with ⟨%W, HO⟩
  rw [show (dats m ρ 0 c).owed t0_0.succ = owed c [] from rfl]
  isplitl [HB HK Hs]
  · isplitl [Hs]; · iexact Hs
    isplitl [HB]; · iexact HB
    iexact HK
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What is left may be exchanged, by an update, for something else. -/
theorem wp_after (p : Prg F) {R : sProp 𝕄} {Q Q' : PUnit → sProp 𝕄} (h : ∀ a, iprop(R ∗ Q a) ⊢ |={Set.univ}=> Q' a) :
    iprop(R ∗ WP c p Q) ⊢ WP c p Q' :=
  (wp_frame_l frame (wpE (defs₀ (F := F)) 𝒱₀ (c : Thread nD τ) none) Set.univ).trans
    ((wp_mono frame (wpE (defs₀ (F := F)) 𝒱₀ (c : Thread nD τ) none) Set.univ h).trans (wp_fupd frame (wpE (defs₀ (F := F)) 𝒱₀ (c : Thread nD τ) none) Set.univ p Q'))

/-- The kernel from the pipeline's hand to the pipeline's hand. -/
theorem wp_body (c : Dev nD) : (bodyPre m ρ c : sProp 𝕄) ⊢ WP c printed (fun _ => bodyPost m ρ c) := by
  obtain ⟨k, hk, hc⟩ := body_shape (F := F)
  rw [hk]
  unfold WP
  rw [wp_deviceId, hc c]
  iintro H
  ihave H := (pre_open m ρ c) $$ H
  icases H with ⟨%K, #HR, H, HO⟩
  iapply (show iprop(recs m ρ K ∗ WP c (prog c) (fun _ => iprop((posns c 1 ![4, 4, 3, 3] ∗ inputs m ρ c ∗ scratch c ∗ owns c oM fullShare (result m ρ)) ∗ owesL c [])))
      ⊢ WP c (prog c) (fun _ => bodyPost m ρ c) from
    wp_after c (prog c) fun _ => post_close m ρ K c)
  isplitr; · iexact HR
  iapply (wp_prog m ρ K c (m ((c : Thread nD τ).loc cc0_scratch2)))
  isplitr; · iexact HR
  isplitl [H]; · iexact H
  iexact HO

set_option maxRecDepth 100000 in
/-- The library's body obligation. -/
theorem body_obligation (c : Dev nD) : BodyObligation (dats (F := F) m ρ 0 c) (defs₀ (F := F)) 𝒱₀ 0 Set.univ := fun t => by
  rw [fin_N0 t]
  rw [bigSep_W0, bigSep_W0]
  exact wp_body m ρ c

/-! ## The side conditions of the launch -/

/-- What the body starts from. -/
theorem start_intro (c : Dev nD) :
    iprop(Pipeline.unscopedRestP Pipeline.Prefetch.none cfg0.spec c (fun b => m ((c : Thread nD τ).loc b)) ∗ levAts Lx lv
        ∗ Pipeline.launchCred (fun d => owed d restS) c ∗ prngReg c (ρ c) ∗ G' m ρ c)
      ⊢ |={Set.univ}=> iprop(start m ρ c ∗ emp) := by
  iintro ⟨-, #Hlev, Hcr, -, HG⟩
  ihave Hc := (creds_intro (F := F) c) $$ Hcr
  imodintro
  unfold start G' recs
  icases HG with ⟨%K, #HI, Hp, Ht⟩
  isplitl
  · iexists K
    isplitr
    · isplitr; · iexact HI
      iexact Hlev
    isplitl [Ht]; · iexact Ht
    isplitl [Hc]; · iexact Hc
    iexact Hp
  · iempintro

set_option maxRecDepth 100000 in
theorem scratch_eq (c : Dev nD) : (Pipeline.scopedRest (Ix := ℕ) (Name := ℕ) (U := UU) (Lvl := ℕ) (Val := Elt F) cfg0.spec c : sProp 𝕄) = scratch c := by
  rw [scopedRest0_eq]
  unfold scratch
  have h : ∀ b : Ref sig .tc, (iprop(∃ f : Buf (Elt F) ((c : Thread nD τ).loc b), ((c : Thread nD τ).loc b) ↦{fullShare} f) : sProp 𝕄)
      = iprop(∃ X, owns (c : Thread nD τ) (Memref.whole b) fullShare X) := fun b => by
    simp only [owns_whole]
  rw [h, h, h]
  rfl

/-- The launch's resources are what the body starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

/-- What the body ends with is what the launch takes back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, unscopedSems0_eq]
  unfold Φ₁ Pipeline.ownSems0
  iintro ⟨Hr, HzB, HzK⟩
  isplitl [HzB]; · iexact HzB
  isplitl [HzK]; · iexact HzK
  iexact Hr

/-- A staging semaphore is none of the kernel's. -/
theorem stage_unnamed (w : Fin cfg0.W) (s : Fin (cfg0.win w).nbuf) : nameOf (SemLoc.dma ((cfg0.win w).sem s)) = none := by
  have h : ∀ i : Option Ky, csem i ≠ SemLoc.dma ((cfg0.win w).sem s) := by
    revert w s
    decide +kernel
  cases e : nameOf (SemLoc.dma ((cfg0.win w).sem s)) with
  | none => rfl
  | some i => exact absurd (nameOf_eq e) (h i)

/-- All that is owed after the barrier is above it. -/
theorem restS_above : Above 1 restS := by
  unfold Above
  decide

/-- The pipeline's own waits come before everything owed. -/
theorem waits (c : Dev nD) : (levAts Lx lv : sProp 𝕄) ⊢ Pipeline.cellsWaits cfgs (dats m ρ) 0 0 c :=
  Pipeline.cellsWaits_intro cfgs (dats m ρ) 0 0 c fun w s t => by
    have h0 : lv ((c : Thread nD τ), SemLoc.dma ((cfg0.win w).sem s)) 0 < 1 := by
      unfold lv
      rw [stage_unnamed w s]
      exact Nat.zero_lt_one
    rcases t with ⟨_ | _, ht⟩
    · exact mayWait c _ 0 restS 1 (by decide) h0 restS_above
    · exact mayWait c _ 0 [] 1 (by decide) h0 (fun o ho => by cases ho)

/-! ## The run -/

/-- Every array of device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every semaphore at zero, every run of the program ends, with each device's arrays at their
    final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d restS) (howed₀ := fun _ => rfl) (howedN := fun _ => rfl)
    (L := Lx) (lv := lv) (hL := Lx_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- Nothing but the result is written. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The result window's one block is its whole array. -/
theorem blk_out (t : Fin cfg0.N) (i : S1024x256.Idx) : ((cfg0.win 7).blk t).view.emb i = i := by
  rw [fin_N0 t]
  exact funext fun a => Fin.ext (Pipeline.Window.rect_emb_val_of_index_zero (cfg0.win 7) t0_0 a (by fin_cases a <;> decide) i)

/-- The output window is the whole output. -/
theorem read_out (t : Fin cfg0.N) (G : S1024x256.Idx → Elt F .bf16) : ((cfg0.win 7).blk t).view.read (Elt F) G = G :=
  funext fun i => congrArg G (blk_out t i)

/-- The result array at the end. -/
theorem finalA_out (c : Dev nD) : finalA m ρ c (7 : Fin 8) = result m ρ := by
  refine (dats m ρ 0 c).arrAt_eq_of_cover 7 (result m ρ) (fun t _ => ?_) (fun i => ⟨t0_0, flush0_7 _, ?_⟩)
  · rw [fin_N0 t]
    exact (show (dats m ρ 0 c).flushed 7 t0_0 = result m ρ from rfl).trans (read_out t0_0 (result m ρ)).symm
  · exact Finset.mem_map.mpr ⟨i, Finset.mem_univ _, blk_out t0_0 i⟩

/-- Every run ends with the result on every device, the arguments as they were and every semaphore at zero. -/
theorem run_all : θ_run defs (onTc (τ := τ) (main (F := F))) ⟨m, fun _ => 0, ρ⟩ (fun r =>
    (∀ c : Dev nD, r.2.mem ((c.tc : Thread nD τ).loc main_v1) = result m ρ
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c 7).trans (finalA_out m ρ c),
      (h.1 c 0).trans (finalA_in m ρ c 0 rfl),
      (h.1 c 1).trans (finalA_in m ρ c 1 rfl),
      (h.1 c 3).trans (finalA_in m ρ c 3 rfl),
      (h.1 c 5).trans (finalA_in m ρ c 5 rfl),
      (h.1 c 2).trans (finalA_in m ρ c 2 rfl),
      (h.1 c 4).trans (finalA_in m ρ c 4 rfl),
      (h.1 c 6).trans (finalA_in m ρ c 6 rfl)⟩, h.2⟩) (run_main m ρ)

end Cert.KernelIdeal.Mlp

end
-- ==== Proof.Value.lean ====
/- The value of the idealized kernel: over the extended reals, what the devices end up with is the three layers of
   the reference, entry by entry. -/
module

public import proofs.«01_k».proof.Defs
public import proofs.«01_k».proof.Proof.KernelIdeal.Run
public import proofs.«01_k».proof.Proof.Gen.ReferenceIdeal.Run
public import Idealize.ShloMosaic.Lib.Pointwise
public import Idealize.ShloMosaic.Lib.Pipeline.Value
public import Idealize.ShloMosaic.Lib.Layout

@[expose] public section

noncomputable section

namespace Cert.KernelIdeal.Mlp

open Cert.KernelIdeal Cert.KernelIdeal.Gen
open Idealize.ShloMosaic Idealize.ShloMosaic.TcCoe

/-! ## One layer over whole matrices -/

/-- The whole activation, the whole first weight, the whole second weight. -/
abbrev Act : Type := (⟨2, ![1024, 256]⟩ : Shape).Idx → EReal
abbrev Wup : Type := (⟨2, ![256, 2048]⟩ : Shape).Idx → EReal
abbrev Wdown : Type := (⟨2, ![2048, 256]⟩ : Shape).Idx → EReal

/-- Entry `(r, k)` of the rectified product of the activation with the first weight. -/
def hidden (X : Act) (A : Wup) (r : Fin 1024) (k : Fin 2048) : EReal := max (∑ a : Fin 256, X (ix2 r a) * A (ix2 a k)) 0

/-- One layer: the rectified product, times the second weight. -/
def wholeLayer (X : Act) (A : Wup) (B : Wdown) : Act := fun i => ∑ k : Fin 2048, hidden X A (i 0) k * B (ix2 k (i 1))

/-- The reference's layer is that. -/
theorem layer_reference (X : FVec Ideal Cert.ReferenceIdeal.S1024x256 .bf16) (A : FVec Ideal Cert.ReferenceIdeal.S256x2048 .bf16)
    (B : FVec Ideal Cert.ReferenceIdeal.S2048x256 .bf16) :
    truncf .bf16 (Host.dotGeneral Cert.ReferenceIdeal.dot_S1024x2048_S2048x256_S1024x256_1_0_0_1_n_n none
      (maximumf (truncf .bf16 (Host.dotGeneral Cert.ReferenceIdeal.dot_S1024x256_S256x2048_S1024x2048_1_0_0_1_n_n none X A) Cert.ReferenceIdeal.Gen.bitsLt_bf16_f32)
        (broadcastInDim Cert.ReferenceIdeal.S1024x2048 ![] Cert.ReferenceIdeal.Gen.bcast_S_S1024x2048 (constant Cert.ReferenceIdeal.S_ .bf16 0x0000#16))) B)
      Cert.ReferenceIdeal.Gen.bitsLt_bf16_f32 = wholeLayer X A B := by
  funext i
  unfold wholeLayer hidden
  pointwise

/-- A device's partial product at an entry. -/
theorem mlp_apply (w1 : FVec Ideal S256x512 .bf16) (w2 : FVec Ideal S512x256 .bf16) (x : FVec Ideal S64x256 .bf16) (i : S64x256.Idx) :
    mlp w1 w2 x i = ∑ k : Fin 512, max (∑ a : Fin 256, x (ix2 (i 0) a) * w1 (ix2 a k)) 0 * w2 (ix2 k (i 1)) := by
  unfold mlp k0_pay21
  pointwise

/-- The sum of four partial products at an entry. -/
theorem sumV_apply (l : Fin 3) (a b c d : Piece Ideal) (i : S64x256.Idx) :
    (sumV l a (lift b) (lift c) (lift d) i : EReal) = a i + b i + c i + d i := by
  match l with
  | 0 => show k0_pay22 a (lift b) (lift c) (lift d) i = _; unfold k0_pay22; pointwise
  | 1 => show k0_pay22 a (lift b) (lift c) (lift d) i = _; unfold k0_pay22; pointwise
  | 2 => show k0_pay82 a (lift b) (lift c) (lift d) i = _; unfold k0_pay82; pointwise

/-! ## The layer as the devices share it -/

/-- Column `k` of device `d`'s block, in the whole. -/
abbrev colOf (d : Fin 4) (k : Fin 512) : Fin 2048 := ⟨512 * d.val + k.val, by omega⟩

/-- A sum over the hidden columns is the sum, over the devices, of the sums over their columns. -/
theorem sum_cols (f : Fin 2048 → EReal) : ∑ k : Fin 2048, f k = ∑ d : Fin 4, ∑ k : Fin 512, f (colOf d k) := by
  rw [← Fintype.sum_prod_type' (fun d k => f (colOf d k))]
  refine (Fintype.sum_equiv (finProdFinEquiv (m := 4) (n := 512)) _ f fun x => congrArg f (Fin.ext ?_)).symm
  show 512 * x.1.val + x.2.val = x.2.val + 512 * x.1.val
  omega

/-- A sum over the devices is the term of one of them, then those of its three peers. -/
theorem sum_peers (g : Fin 4 → EReal) (p : Dev nD) : g p + g (peer 0 p) + g (peer 1 p) + g (peer 2 p) = ∑ d : Fin 4, g d := by
  rw [Fin.sum_univ_four]
  fin_cases p
  · show g 0 + g 2 + g 1 + g 3 = _; abel
  · show g 1 + g 3 + g 0 + g 2 = _; abel
  · show g 2 + g 0 + g 3 + g 1 = _; abel
  · show g 3 + g 1 + g 2 + g 0 = _; abel

/-- An activation held in pieces is the whole one. -/
def Holds (V : Dev nD → Fin 4 → Piece Ideal) (X : Act) : Prop := ∀ p h i, V p h i = X ((rectP p h).emb i)

/-- Each device holds its columns of the first weight; its rows of the second. -/
def HoldsUp (w : Dev nD → FVec Ideal S256x512 .bf16) (A : Wup) : Prop := ∀ d a k, w d (ix2 a k) = A (ix2 a (colOf d k))
def HoldsDown (w : Dev nD → FVec Ideal S512x256 .bf16) (B : Wdown) : Prop := ∀ d k n, w d (ix2 k n) = B (ix2 (colOf d k) n)

/-- Another entry of the same row of a piece is in the same row of the whole. -/
theorem emb_ix2 (p : Dev nD) (h : Fin 4) (i : S64x256.Idx) (a : Fin 256) :
    (rectP p h).emb (ix2 (i 0) a) = ix2 ((rectP p h).emb i 0) a := by
  refine Shape.idx_ext₂ ?_ ?_
  · exact (emb_row p h _).trans (emb_row p h i).symm
  · exact emb_col p h _

variable (m : (ℓ : Loc nD τ sig) → Buf (Elt Ideal) ℓ) (ρ : Dev nD → PrngReg)

/-- A device's partial product is its columns' share of the whole layer. -/
theorem partOf_apply (l : Fin 3) (V : Dev nD → Fin 4 → Piece Ideal) (X : Act) (A : Wup) (B : Wdown) (hV : Holds V X)
    (hA : HoldsUp (W1 m ρ l) A) (hB : HoldsDown (W2 m ρ l) B) (d p : Dev nD) (h : Fin 4) (i : S64x256.Idx) :
    partOf m ρ l V d p h i = ∑ k : Fin 512, hidden X A ((rectP p h).emb i 0) (colOf d k) * B (ix2 (colOf d k) (i 1)) := by
  unfold partOf
  rw [mlp_apply]
  refine Finset.sum_congr rfl fun k _ => ?_
  unfold hidden
  rw [hB d k (i 1)]
  refine congrArg (fun z => max z 0 * _) (Finset.sum_congr rfl fun a _ => ?_)
  rw [hV p h, hA d a k, emb_ix2]; rfl

/-- One layer of the kernel is one layer of the reference. -/
theorem next_holds (l : Fin 3) (V : Dev nD → Fin 4 → Piece Ideal) (X : Act) (A : Wup) (B : Wdown) (hV : Holds V X)
    (hA : HoldsUp (W1 m ρ l) A) (hB : HoldsDown (W2 m ρ l) B) : Holds (next m ρ l V) (wholeLayer X A B) := by
  intro p h i
  unfold next wholeLayer
  rw [sumV_apply, sum_cols, ← sum_peers _ p]
  simp only [partOf_apply m ρ l V X A B hV hA hB]
  have hc : (rectP p h).emb i 1 = i 1 := Fin.ext (emb_col p h i)
  rw [hc]

/-! ## What the devices start from -/

/-- The staged input is the device's argument. -/
theorem xstg_eq (c : Dev nD) : xstg m ρ c = m ((c : Thread nD τ).loc main_arg0) :=
  funext fun i => congrArg (m ((c : Thread nD τ).loc main_arg0)) (funext fun a => Fin.ext
    (Pipeline.Window.rect_emb_val_of_index_zero win0_0 t0_0 a (by fin_cases a <;> decide) i))

/-- The first weights of the three layers, as launched; the second ones. -/
abbrev up (l : Fin 3) (c : Dev nD) : S256x512.Idx → EReal :=
  match l with
  | 0 => m ((c : Thread nD τ).loc main_arg1)
  | 1 => m ((c : Thread nD τ).loc main_arg2)
  | 2 => m ((c : Thread nD τ).loc main_arg3)
abbrev down (l : Fin 3) (c : Dev nD) : S512x256.Idx → EReal :=
  match l with
  | 0 => m ((c : Thread nD τ).loc main_arg4)
  | 1 => m ((c : Thread nD τ).loc main_arg5)
  | 2 => m ((c : Thread nD τ).loc main_arg6)

/-- The first weight that the body uses in a layer is the device's argument; -/
theorem W1_eq (l : Fin 3) (c : Dev nD) : W1 m ρ l c = up m l c := by
  show shapeCast S256x512 (w1stg m ρ l c) _ = _
  rw [shapeCast_self]
  match l with
  | 0 => exact funext fun i => congrArg (m ((c : Thread nD τ).loc main_arg1)) (funext fun a => Fin.ext
      (Pipeline.Window.rect_emb_val_of_index_zero win0_1 t0_0 a (by fin_cases a <;> decide) i))
  | 1 => exact funext fun i => congrArg (m ((c : Thread nD τ).loc main_arg2)) (funext fun a => Fin.ext
      (Pipeline.Window.rect_emb_val_of_index_zero win0_3 t0_0 a (by fin_cases a <;> decide) i))
  | 2 => exact funext fun i => congrArg (m ((c : Thread nD τ).loc main_arg3)) (funext fun a => Fin.ext
      (Pipeline.Window.rect_emb_val_of_index_zero win0_5 t0_0 a (by fin_cases a <;> decide) i))

/-- so is the second. -/
theorem W2_eq (l : Fin 3) (c : Dev nD) : W2 m ρ l c = down m l c := by
  show shapeCast S512x256 (w2stg m ρ l c) _ = _
  rw [shapeCast_self]
  match l with
  | 0 => exact funext fun i => congrArg (m ((c : Thread nD τ).loc main_arg4)) (funext fun a => Fin.ext
      (Pipeline.Window.rect_emb_val_of_index_zero win0_2 t0_0 a (by fin_cases a <;> decide) i))
  | 1 => exact funext fun i => congrArg (m ((c : Thread nD τ).loc main_arg5)) (funext fun a => Fin.ext
      (Pipeline.Window.rect_emb_val_of_index_zero win0_4 t0_0 a (by fin_cases a <;> decide) i))
  | 2 => exact funext fun i => congrArg (m ((c : Thread nD τ).loc main_arg6)) (funext fun a => Fin.ext
      (Pipeline.Window.rect_emb_val_of_index_zero win0_6 t0_0 a (by fin_cases a <;> decide) i))

/-- Blocks of columns, blocks of rows, as the devices hold them. -/
theorem holdsUp_of_block (l : Fin 3) (A : Wup) (h : ∀ c : Dev nD, up m l c = Layout.block ⟨2, ![256, 512]⟩ ⟨2, ![256, 2048]⟩ 1 4 c A) :
    HoldsUp (W1 m ρ l) A := by
  intro d a k
  rw [W1_eq, h d]
  refine congrArg A (Shape.idx_ext₂ ?_ ?_)
  · rfl
  · show d.val * 512 + k.val = 512 * d.val + k.val
    omega

/-- The device's block of rows of the second weight is what it holds of it. -/
theorem holdsDown_of_block (l : Fin 3) (B : Wdown) (h : ∀ c : Dev nD, down m l c = Layout.block ⟨2, ![512, 256]⟩ ⟨2, ![2048, 256]⟩ 0 4 c B) :
    HoldsDown (W2 m ρ l) B := by
  intro d k n
  rw [W2_eq, h d]
  refine congrArg B (Shape.idx_ext₂ ?_ ?_)
  · show d.val * 512 + k.val = 512 * d.val + k.val
    omega
  · rfl

/-- The input, in pieces, is the whole input. -/
theorem act0_holds (X : Act)
    (h : ∀ c : Dev nD, m ((c : Thread nD τ).loc main_arg0) = Layout.block ⟨2, ![256, 256]⟩ ⟨2, ![1024, 256]⟩ 0 4 c X) :
    Holds (act0 m ρ) X := by
  intro p h' i
  show shapeCast S256x256 (shapeCast S256x256 (xstg m ρ p) _) _ ((rectX h').emb i) = _
  rw [shapeCast_self, shapeCast_self (s := S256x256) (xstg m ρ p), xstg_eq, h p]
  refine congrArg X (Shape.idx_ext₂ ?_ ?_)
  · refine Eq.trans ?_ (emb_row p h' i).symm
    show p.val * 256 + (64 * h'.val + 1 * (i 0).val) = _
    omega
  · refine Eq.trans ?_ (emb_col p h' i).symm
    show 0 + 1 * (i 1).val = _
    omega

/-- The kernel's result is the three layers of the reference. -/
theorem result_eq (X : Act) (A₀ A₁ A₂ : Wup) (B₀ B₁ B₂ : Wdown)
    (hX : ∀ c : Dev nD, m ((c : Thread nD τ).loc main_arg0) = Layout.block ⟨2, ![256, 256]⟩ ⟨2, ![1024, 256]⟩ 0 4 c X)
    (hA₀ : ∀ c : Dev nD, up m 0 c = Layout.block ⟨2, ![256, 512]⟩ ⟨2, ![256, 2048]⟩ 1 4 c A₀)
    (hA₁ : ∀ c : Dev nD, up m 1 c = Layout.block ⟨2, ![256, 512]⟩ ⟨2, ![256, 2048]⟩ 1 4 c A₁)
    (hA₂ : ∀ c : Dev nD, up m 2 c = Layout.block ⟨2, ![256, 512]⟩ ⟨2, ![256, 2048]⟩ 1 4 c A₂)
    (hB₀ : ∀ c : Dev nD, down m 0 c = Layout.block ⟨2, ![512, 256]⟩ ⟨2, ![2048, 256]⟩ 0 4 c B₀)
    (hB₁ : ∀ c : Dev nD, down m 1 c = Layout.block ⟨2, ![512, 256]⟩ ⟨2, ![2048, 256]⟩ 0 4 c B₁)
    (hB₂ : ∀ c : Dev nD, down m 2 c = Layout.block ⟨2, ![512, 256]⟩ ⟨2, ![2048, 256]⟩ 0 4 c B₂) :
    result m ρ = wholeLayer (wholeLayer (wholeLayer X A₀ B₀) A₁ B₁) A₂ B₂ := by
  have h1 := next_holds m ρ 0 _ _ _ _ (act0_holds m ρ X hX) (holdsUp_of_block m ρ 0 A₀ hA₀) (holdsDown_of_block m ρ 0 B₀ hB₀)
  have h2 := next_holds m ρ 1 _ _ _ _ h1 (holdsUp_of_block m ρ 1 A₁ hA₁) (holdsDown_of_block m ρ 1 B₁ hB₁)
  have h3 := next_holds m ρ 2 _ _ _ _ h2 (holdsUp_of_block m ρ 2 A₂ hA₂) (holdsDown_of_block m ρ 2 B₂ hB₂)
  funext i
  refine (h3 (chunkOf i) (pieceOf i) (placeOf i)).trans ?_
  rw [emb_place]

end Cert.KernelIdeal.Mlp

namespace Cert.Proof

open Idealize.ShloMosaic Idealize.ShloMosaic.TcCoe Idealize.SL.Sem

/-- From arguments that are the devices' blocks of the reference's, every device of the idealized kernel ends with the
    reference's result, and both leave their arguments as they were. -/
theorem algebraic : Cert.algebraic_KernelIdeal_ReferenceIdeal := by
  intro m g m' g' _ h
  refine ⟨_, (θ_run Cert.KernelIdeal.defs _ _).mono (fun r hr c => ⟨?_, (hr.1 c).2⟩) (Cert.KernelIdeal.Mlp.run_all (F := Ideal) m g),
    (θ_run Cert.ReferenceIdeal.defs _ _).mono (fun r hr => hr 0) (Cert.ReferenceIdeal.Value.run (F := Ideal) m' g')⟩
  rw [(hr.1 c).1, Cert.KernelIdeal.Mlp.result_eq m g _ _ _ _ _ _ _ (fun c => (h c).1) (fun c => (h c).2.1)
    (fun c => (h c).2.2.1) (fun c => (h c).2.2.2.1) (fun c => (h c).2.2.2.2.1) (fun c => (h c).2.2.2.2.2.1)
    (fun c => (h c).2.2.2.2.2.2)]
  rw [Cert.KernelIdeal.Mlp.layer_reference, Cert.KernelIdeal.Mlp.layer_reference, Cert.KernelIdeal.Mlp.layer_reference]

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel as it is run ends, its arguments as they were and every semaphore at zero. -/
theorem frame_kernel : Cert.quiescent_Kernel := fun m ρ _ =>
  (θ_run Cert.Kernel.defs _ _).mono (fun _ h => ⟨fun c => (h.1 c).2, h.2⟩) (Cert.Kernel.Mlp.run_all (F := Bits) m ρ)

/-- The idealized kernel ends, its arguments as they were and every semaphore at zero. -/
theorem frame_ideal : Cert.quiescent_KernelIdeal := fun m ρ _ =>
  (θ_run Cert.KernelIdeal.defs _ _).mono (fun _ h => ⟨fun c => (h.1 c).2, h.2⟩) (Cert.KernelIdeal.Mlp.run_all (F := Ideal) m ρ)

/-- The reference ends, its arguments as they were; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- All the claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
